-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E38AA3B#32 (((1 / 8) * (Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S4x8192x1024 : Shape := ⟨3, ![4, 8192, 1024]⟩
abbrev S4x1024x8192 : Shape := ⟨3, ![4, 1024, 8192]⟩
abbrev S16x640x256 : Shape := ⟨3, ![16, 640, 256]⟩
abbrev S1024x1024 : Shape := ⟨2, ![1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S16x640x256 : S_.BroadcastsInDim S16x640x256 (![] : Fin 0 → Fin S16x640x256.rank)
  reducesTo_S16x640x256_S_d0_1_2 : S16x640x256.ReducesTo [0, 1, 2] S_

variable [Facts]

def fn {F : FTy → Type} [FloatOps F] (main_arg0 : FVec F S4x8192x1024 .f32) (main_arg1 : FVec F S4x8192x1024 .bf16) (main_arg2 : FVec F S4x8192x1024 .bf16) (main_arg3 : FVec F S4x1024x8192 .bf16) (main_arg4 : FVec F S16x640x256 .f32) (main_arg5 : FVec F S1024x1024 .f32) : IVec S_ 1 :=
  let main_v0 : FVec F S4x8192x1024 .bf16 := Host.absf main_arg1
  let main_cst : FVec F S_ .bf16 := constant S_ .bf16 0x7F80#16
  let main_v1 : FVec F S4x8192x1024 .bf16 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .bf16 := Host.absf main_arg2
  let main_cst_0 : FVec F S_ .bf16 := constant S_ .bf16 0x7F80#16
  let main_v5 : FVec F S4x8192x1024 .bf16 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : FVec F S16x640x256 .f32 := Host.absf main_arg4
  let main_cst_2 : FVec F S_ .f32 := constant S_ .f32 0x7F800000#32
  let main_v9 : FVec F S16x640x256 .f32 := broadcastInDim S16x640x256 ![] bcast_S_S16x640x256 main_cst_2
  let main_v10 : IVec S16x640x256 1 := cmpf .olt main_v8 main_v9
  let main_c_3 : IVec S_ 1 := constantI S_ 1 1#1
  let main_v11 : IVec S_ 1 := (fun x v => Host.reduce IntOp.andi x v reducesTo_S16x640x256_S_d0_1_2 h_S_) main_v10 main_c_3
  let main_v12 : IVec S_ 1 := andi main_v3 main_v7
  let main_v13 : IVec S_ 1 := andi main_v12 main_v11
  main_v13
-- ==== Kernel.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S2x16x513 : Shape := ⟨3, ![2, 16, 513]⟩
abbrev S1024x1024 : Shape := ⟨2, ![1024, 1024]⟩
abbrev S32768x1024 : Shape := ⟨2, ![32768, 1024]⟩
abbrev S32x513 : Shape := ⟨2, ![32, 513]⟩
abbrev S32x1 : Shape := ⟨2, ![32, 1]⟩
abbrev S32x640 : Shape := ⟨2, ![32, 640]⟩
abbrev S32x384 : Shape := ⟨2, ![32, 384]⟩
abbrev S32x1024 : Shape := ⟨2, ![32, 1024]⟩
abbrev S32x1x1024 : Shape := ⟨3, ![32, 1, 1024]⟩
abbrev S16x640x256 : Shape := ⟨3, ![16, 640, 256]⟩
abbrev S2x1x1024 : Shape := ⟨3, ![2, 1, 1024]⟩
abbrev S1x640x256 : Shape := ⟨3, ![1, 640, 256]⟩
abbrev S640x128 : Shape := ⟨2, ![640, 128]⟩
abbrev S1x1x1024 : Shape := ⟨3, ![1, 1, 1024]⟩
abbrev S1x1024 : Shape := ⟨2, ![1, 1024]⟩
abbrev S640x1024 : Shape := ⟨2, ![640, 1024]⟩
abbrev S640x256 : Shape := ⟨2, ![640, 256]⟩
abbrev S1x64 : Shape := ⟨2, ![1, 64]⟩
abbrev S16x64 : Shape := ⟨2, ![16, 64]⟩
abbrev S1024x2048 : Shape := ⟨2, ![1024, 2048]⟩
abbrev S4x1024x8192 : Shape := ⟨3, ![4, 1024, 8192]⟩
abbrev S1x1024x1024 : Shape := ⟨3, ![1, 1024, 1024]⟩
abbrev S1024x1 : Shape := ⟨2, ![1024, 1]⟩
abbrev S1x128 : Shape := ⟨2, ![1, 128]⟩
abbrev S1024x128 : Shape := ⟨2, ![1024, 128]⟩
abbrev S1x512x1024 : Shape := ⟨3, ![1, 512, 1024]⟩
abbrev S1x1024x512 : Shape := ⟨3, ![1, 1024, 512]⟩
abbrev S8x640x256 : Shape := ⟨3, ![8, 640, 256]⟩
abbrev S512x1024 : Shape := ⟨2, ![512, 1024]⟩
abbrev S2x8x640x256 : Shape := ⟨4, ![2, 8, 640, 256]⟩
abbrev S128x128 : Shape := ⟨2, ![128, 128]⟩
abbrev S1x128x128 : Shape := ⟨3, ![1, 128, 128]⟩
abbrev S256x128 : Shape := ⟨2, ![256, 128]⟩
abbrev S128x256 : Shape := ⟨2, ![128, 256]⟩
abbrev S1x128x256 : Shape := ⟨3, ![1, 128, 256]⟩
abbrev S1x1x128x256 : Shape := ⟨4, ![1, 1, 128, 256]⟩
abbrev S1x256x128 : Shape := ⟨3, ![1, 256, 128]⟩
abbrev S256x256 : Shape := ⟨2, ![256, 256]⟩
abbrev S1x256x256 : Shape := ⟨3, ![1, 256, 256]⟩
abbrev S1x1x256x256 : Shape := ⟨4, ![1, 1, 256, 256]⟩
abbrev S256 : Shape := ⟨1, ![256]⟩
abbrev S1x256 : Shape := ⟨2, ![1, 256]⟩
abbrev S16x128 : Shape := ⟨2, ![16, 128]⟩
abbrev S144x128 : Shape := ⟨2, ![144, 128]⟩
abbrev S144x256 : Shape := ⟨2, ![144, 256]⟩
abbrev S1x384x128 : Shape := ⟨3, ![1, 384, 128]⟩
abbrev S384x128 : Shape := ⟨2, ![384, 128]⟩
abbrev S384x256 : Shape := ⟨2, ![384, 256]⟩
abbrev S1x384x256 : Shape := ⟨3, ![1, 384, 256]⟩
abbrev S1x1x384x256 : Shape := ⟨4, ![1, 1, 384, 256]⟩
abbrev S16x256 : Shape := ⟨2, ![16, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x1x512x256 : Shape := ⟨4, ![1, 1, 512, 256]⟩
abbrev S16x384 : Shape := ⟨2, ![16, 384]⟩
abbrev S1x128x384 : Shape := ⟨3, ![1, 128, 384]⟩
abbrev S128x384 : Shape := ⟨2, ![128, 384]⟩
abbrev S144x384 : Shape := ⟨2, ![144, 384]⟩
abbrev S16x512 : Shape := ⟨2, ![16, 512]⟩
abbrev S1x128x512 : Shape := ⟨3, ![1, 128, 512]⟩
abbrev S128x512 : Shape := ⟨2, ![128, 512]⟩
abbrev S144x512 : Shape := ⟨2, ![144, 512]⟩
abbrev S1x1x640x256 : Shape := ⟨4, ![1, 1, 640, 256]⟩

abbrev nBuf : Space → Nat
  | .hbm => 36
  | .vmem => 35
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2x16x513, .f32⟩
  | .hbm, ⟨6, _⟩ => ⟨S1024x1024, .f32⟩
  | .hbm, ⟨7, _⟩ => ⟨S32768x1024, .f32⟩
  | .hbm, ⟨8, _⟩ => ⟨S32x513, .f32⟩
  | .hbm, ⟨9, _⟩ => ⟨S32x1, .f32⟩
  | .hbm, ⟨10, _⟩ => ⟨S32x640, .f32⟩
  | .hbm, ⟨11, _⟩ => ⟨S32x384, .f32⟩
  | .hbm, ⟨12, _⟩ => ⟨S32x1024, .f32⟩
  | .hbm, ⟨13, _⟩ => ⟨S32x1x1024, .f32⟩
  | .hbm, ⟨14, _⟩ => ⟨S16x640x256, .f32⟩
  | .hbm, ⟨15, _⟩ => ⟨S1x1024, .f32⟩
  | .hbm, ⟨16, _⟩ => ⟨S1024x3072, .bf16⟩
  | .hbm, ⟨17, _⟩ => ⟨S1024x1024, .bf16⟩
  | .hbm, ⟨18, _⟩ => ⟨S1x64, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1024x2048, .bf16⟩
  | .hbm, ⟨27, _⟩ => ⟨S1024x1024, .bf16⟩
  | .hbm, ⟨28, _⟩ => ⟨S1024x1024, .bf16⟩
  | .hbm, ⟨29, _⟩ => ⟨S32768x1024, .bf16⟩
  | .hbm, ⟨30, _⟩ => ⟨S32768x1024, .bf16⟩
  | .hbm, ⟨31, _⟩ => ⟨S4x1024x8192, .bf16⟩
  | .hbm, ⟨32, _⟩ => ⟨S4x8192x1024, .f32⟩
  | .hbm, ⟨33, _⟩ => ⟨S4x8192x1024, .bf16⟩
  | .hbm, ⟨34, _⟩ => ⟨S4x8192x1024, .bf16⟩
  | .hbm, ⟨35, _⟩ => ⟨S4x8192x1024, .f32⟩
  | .local _ .vmem, ⟨0, _⟩ => ⟨S2x1x1024, .f32⟩
  | .local _ .vmem, ⟨1, _⟩ => ⟨S2x1x1024, .f32⟩
  | .local _ .vmem, ⟨2, _⟩ => ⟨S1x640x256, .f32⟩
  | .local _ .vmem, ⟨3, _⟩ => ⟨S1x640x256, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S8x640x256, .f32⟩
  | .local _ .vmem, ⟨30, _⟩ => ⟨S1024x1024, .bf16⟩
  | .local _ .vmem, ⟨31, _⟩ => ⟨S1x512x1024, .f32⟩
  | .local _ .vmem, ⟨32, _⟩ => ⟨S1x512x1024, .f32⟩
  | .local _ .vmem, ⟨33, _⟩ => ⟨S512x1024, .bf16⟩
  | .local _ .vmem, ⟨34, _⟩ => ⟨S2x8x640x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc2_scratch0 : Ref sig .tc := ⟨.vmem, 33, rfl⟩
abbrev cc2_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem7_0 : DmaSem sig := 30
abbrev cc2_sem8_0 : DmaSem sig := 31
abbrev cc2_sem8_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_6 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S8x640x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== Kernel2.lean ====
abbrev S4x8192x1024 : Shape := ⟨3, ![4, 8192, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S1x2816 : Shape := ⟨2, ![1, 2816]⟩
abbrev S1024x1024 : Shape := ⟨2, ![1024, 1024]⟩
abbrev S8x2816 : Shape := ⟨2, ![8, 2816]⟩
abbrev S1024x1 : Shape := ⟨2, ![1024, 1]⟩
abbrev S1024x256 : Shape := ⟨2, ![1024, 256]⟩
abbrev S8x256 : Shape := ⟨2, ![8, 256]⟩
abbrev S1016x256 : Shape := ⟨2, ![1016, 256]⟩
abbrev S1x256 : Shape := ⟨2, ![1, 256]⟩

abbrev nBuf : Space → Nat
  | .hbm => 14
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S32768x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1x2816, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | .local _ .vmem, ⟨10, _⟩ => ⟨S8x2816, .f32⟩
  | .local _ .vmem, ⟨11, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x2816, .f32⟩
  | .hbm, ⟨24, _⟩ => ⟨S4x8192x2816, .f32⟩
  | .hbm, ⟨25, _⟩ => ⟨S_, .i32⟩
  | .hbm, ⟨26, _⟩ => ⟨S_, .f32⟩
  | .hbm, ⟨27, _⟩ => ⟨S4x8194x2816, .f32⟩
  | .hbm, ⟨28, _⟩ => ⟨S4x8192x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S1x1x2816, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S1x64 : Shape := ⟨2, ![1, 64]⟩
abbrev S16x64 : Shape := ⟨2, ![16, 64]⟩
abbrev S1x1024 : Shape := ⟨2, ![1, 1024]⟩
abbrev S32768x1024 : Shape := ⟨2, ![32768, 1024]⟩
abbrev S1024x2048 : Shape := ⟨2, ![1024, 2048]⟩
abbrev S1024x1024 : Shape := ⟨2, ![1024, 1024]⟩
abbrev S4x1024x8192 : Shape := ⟨3, ![4, 1024, 8192]⟩
abbrev S1x1024x1024 : Shape := ⟨3, ![1, 1024, 1024]⟩
abbrev S1024x1 : Shape := ⟨2, ![1024, 1]⟩
abbrev S1x128 : Shape := ⟨2, ![1, 128]⟩
abbrev S1024x128 : Shape := ⟨2, ![1024, 128]⟩

abbrev nBuf : Space → Nat
  | .hbm => 22
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x1024, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S1x1024, .f32⟩
  | .hbm, ⟨14, _⟩ => ⟨S32768x1024, .f32⟩
  | .hbm, ⟨15, _⟩ => ⟨S1x1024, .f32⟩
  | .hbm, ⟨16, _⟩ => ⟨S1024x2048, .bf16⟩
  | .hbm, ⟨17, _⟩ => ⟨S1024x1024, .bf16⟩
  | .hbm, ⟨18, _⟩ => ⟨S1024x1024, .bf16⟩
  | .hbm, ⟨19, _⟩ => ⟨S32768x1024, .bf16⟩
  | .hbm, ⟨20, _⟩ => ⟨S32768x1024, .bf16⟩
  | .hbm, ⟨21, _⟩ => ⟨S4x1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S32768x1024 : Shape := ⟨2, ![32768, 1024]⟩
abbrev S4x1024x8192 : Shape := ⟨3, ![4, 1024, 8192]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x3072, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x16x64, .f32⟩
  | .hbm, ⟨26, _⟩ => ⟨S4x8192x16x64, .f32⟩
  | .hbm, ⟨27, _⟩ => ⟨S_, .f32⟩
  | .hbm, ⟨28, _⟩ => ⟨S4x8192x16, .f32⟩
  | .hbm, ⟨29, _⟩ => ⟨S4x8192x16x1, .f32⟩
  | .hbm, ⟨30, _⟩ => ⟨S_, .f32⟩
  | .hbm, ⟨31, _⟩ => ⟨S4x8192x16x1, .f32⟩
  | .hbm, ⟨32, _⟩ => ⟨S4x8192x16x1, .f32⟩
  | .hbm, ⟨33, _⟩ => ⟨S_, .f32⟩
  | .hbm, ⟨34, _⟩ => ⟨S4x8192x16x1, .f32⟩
  | .hbm, ⟨35, _⟩ => ⟨S4x8192x16x1, .f32⟩
  | .hbm, ⟨36, _⟩ => ⟨S4x8192x16x1, .f32⟩
  | .hbm, ⟨37, _⟩ => ⟨S4x8192x16x64, .f32⟩
  | .hbm, ⟨38, _⟩ => ⟨S4x8192x16x64, .f32⟩
  | .hbm, ⟨39, _⟩ => ⟨S1x1x1x64, .f32⟩
  | .hbm, ⟨40, _⟩ => ⟨S4x8192x16x64, .f32⟩
  | .hbm, ⟨41, _⟩ => ⟨S4x8192x16x64, .f32⟩
  | .hbm, ⟨42, _⟩ => ⟨S_, .f32⟩
  | .hbm, ⟨43, _⟩ => ⟨S4x8192x16x64, .f32⟩
  | .hbm, ⟨44, _⟩ => ⟨S4x8192x16x64, .f32⟩
  | .hbm, ⟨45, _⟩ => ⟨S4x8192x16x64, .f32⟩
  | .hbm, ⟨46, _⟩ => ⟨S4x8192x16x64, .f32⟩
  | .hbm, ⟨47, _⟩ => ⟨S_, .f32⟩
  | .hbm, ⟨48, _⟩ => ⟨S4x8192x16, .f32⟩
  | .hbm, ⟨49, _⟩ => ⟨S4x8192x16x1, .f32⟩
  | .hbm, ⟨50, _⟩ => ⟨S_, .f32⟩
  | .hbm, ⟨51, _⟩ => ⟨S4x8192x16x1, .f32⟩
  | .hbm, ⟨52, _⟩ => ⟨S4x8192x16x1, .f32⟩
  | .hbm, ⟨53, _⟩ => ⟨S_, .f32⟩
  | .hbm, ⟨54, _⟩ => ⟨S4x8192x16x1, .f32⟩
  | .hbm, ⟨55, _⟩ => ⟨S4x8192x16x1, .f32⟩
  | .hbm, ⟨56, _⟩ => ⟨S4x8192x16x1, .f32⟩
  | .hbm, ⟨57, _⟩ => ⟨S4x8192x16x64, .f32⟩
  | .hbm, ⟨58, _⟩ => ⟨S4x8192x16x64, .f32⟩
  | .hbm, ⟨59, _⟩ => ⟨S1x1x1x64, .f32⟩
  | .hbm, ⟨60, _⟩ => ⟨S4x8192x16x64, .f32⟩
  | .hbm, ⟨61, _⟩ => ⟨S4x8192x16x64, .f32⟩
  | .hbm, ⟨62, _⟩ => ⟨S32768x1024, .f32⟩
  | .hbm, ⟨63, _⟩ => ⟨S32768x1024, .bf16⟩
  | .hbm, ⟨64, _⟩ => ⟨S32768x1024, .f32⟩
  | .hbm, ⟨65, _⟩ => ⟨S32768x1024, .bf16⟩
  | .hbm, ⟨66, _⟩ => ⟨S4x1024x8192, .f32⟩
  | .hbm, ⟨67, _⟩ => ⟨S4x1024x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1024x8192 : Shape := ⟨3, ![4, 1024, 8192]⟩
abbrev S16x640x256 : Shape := ⟨3, ![16, 640, 256]⟩
abbrev S1024x1024 : Shape := ⟨2, ![1024, 1024]⟩
abbrev S1x512x1024 : Shape := ⟨3, ![1, 512, 1024]⟩
abbrev S1x1024x512 : Shape := ⟨3, ![1, 1024, 512]⟩
abbrev S8x640x256 : Shape := ⟨3, ![8, 640, 256]⟩
abbrev S512x1024 : Shape := ⟨2, ![512, 1024]⟩
abbrev S2x8x640x256 : Shape := ⟨4, ![2, 8, 640, 256]⟩
abbrev S128x128 : Shape := ⟨2, ![128, 128]⟩
abbrev S1x128x128 : Shape := ⟨3, ![1, 128, 128]⟩
abbrev S256x128 : Shape := ⟨2, ![256, 128]⟩
abbrev S128x256 : Shape := ⟨2, ![128, 256]⟩
abbrev S1x128x256 : Shape := ⟨3, ![1, 128, 256]⟩
abbrev S1x1x128x256 : Shape := ⟨4, ![1, 1, 128, 256]⟩
abbrev S1x256x128 : Shape := ⟨3, ![1, 256, 128]⟩
abbrev S256x256 : Shape := ⟨2, ![256, 256]⟩
abbrev S1x256x256 : Shape := ⟨3, ![1, 256, 256]⟩
abbrev S1x1x256x256 : Shape := ⟨4, ![1, 1, 256, 256]⟩
abbrev S256 : Shape := ⟨1, ![256]⟩
abbrev S1x256 : Shape := ⟨2, ![1, 256]⟩
abbrev S16x128 : Shape := ⟨2, ![16, 128]⟩
abbrev S144x128 : Shape := ⟨2, ![144, 128]⟩
abbrev S144x256 : Shape := ⟨2, ![144, 256]⟩
abbrev S1x128 : Shape := ⟨2, ![1, 128]⟩
abbrev S1x384x128 : Shape := ⟨3, ![1, 384, 128]⟩
abbrev S384x128 : Shape := ⟨2, ![384, 128]⟩
abbrev S384x256 : Shape := ⟨2, ![384, 256]⟩
abbrev S1x384x256 : Shape := ⟨3, ![1, 384, 256]⟩
abbrev S1x1x384x256 : Shape := ⟨4, ![1, 1, 384, 256]⟩
abbrev S16x256 : Shape := ⟨2, ![16, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x1x512x256 : Shape := ⟨4, ![1, 1, 512, 256]⟩
abbrev S16x384 : Shape := ⟨2, ![16, 384]⟩
abbrev S1x128x384 : Shape := ⟨3, ![1, 128, 384]⟩
abbrev S128x384 : Shape := ⟨2, ![128, 384]⟩
abbrev S144x384 : Shape := ⟨2, ![144, 384]⟩
abbrev S16x512 : Shape := ⟨2, ![16, 512]⟩
abbrev S1x128x512 : Shape := ⟨3, ![1, 128, 512]⟩
abbrev S128x512 : Shape := ⟨2, ![128, 512]⟩
abbrev S144x512 : Shape := ⟨2, ![144, 512]⟩
abbrev S640x256 : Shape := ⟨2, ![640, 256]⟩
abbrev S1x640x256 : Shape := ⟨3, ![1, 640, 256]⟩
abbrev S1x1x640x256 : Shape := ⟨4, ![1, 1, 640, 256]⟩

abbrev nBuf : Space → Nat
  | .hbm => 8
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x1024, .bf16⟩
  | .hbm, ⟨3, _⟩ => ⟨S4x1024x8192, .bf16⟩
  | .hbm, ⟨4, _⟩ => ⟨S16x640x256, .f32⟩
  | .hbm, ⟨5, _⟩ => ⟨S1024x1024, .f32⟩
  | .hbm, ⟨6, _⟩ => ⟨S1024x1024, .bf16⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S8x640x256, .f32⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x1024, .bf16⟩
  | .local _ .vmem, ⟨17, _⟩ => ⟨S2x8x640x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x640x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x8192x1024 : Shape := ⟨3, ![4, 8192, 1024]⟩
abbrev S4x1024x8192 : Shape := ⟨3, ![4, 1024, 8192]⟩
abbrev S16x640x256 : Shape := ⟨3, ![16, 640, 256]⟩
abbrev S1024x1024 : Shape := ⟨2, ![1024, 1024]⟩
abbrev S4x64x128x16x64 : Shape := ⟨5, ![4, 64, 128, 16, 64]⟩
abbrev S_ : Shape := ⟨0, ![]⟩
abbrev S4x8704x1024 : Shape := ⟨3, ![4, 8704, 1024]⟩
abbrev S4x68x128x16x64 : Shape := ⟨5, ![4, 68, 128, 16, 64]⟩
abbrev S4x64x640x16x64 : Shape := ⟨5, ![4, 64, 640, 16, 64]⟩
abbrev S8x640x256 : Shape := ⟨3, ![8, 640, 256]⟩
abbrev S8x640x2x128 : Shape := ⟨4, ![8, 640, 2, 128]⟩
abbrev S8x2x128x640 : Shape := ⟨4, ![8, 2, 128, 640]⟩
abbrev S16x128x640 : Shape := ⟨3, ![16, 128, 640]⟩
abbrev S4x64x16x128x640 : Shape := ⟨5, ![4, 64, 16, 128, 640]⟩
abbrev S1x1x16x128x640 : Shape := ⟨5, ![1, 1, 16, 128, 640]⟩
abbrev S64 : Shape := ⟨1, ![64]⟩
abbrev S64x1 : Shape := ⟨2, ![64, 1]⟩
abbrev S640 : Shape := ⟨1, ![640]⟩
abbrev S1x640 : Shape := ⟨2, ![1, 640]⟩
abbrev S64x640 : Shape := ⟨2, ![64, 640]⟩
abbrev S1x64x1x1x640 : Shape := ⟨5, ![1, 64, 1, 1, 640]⟩
abbrev S4x64x16x128 : Shape := ⟨4, ![4, 64, 16, 128]⟩
abbrev S4x64x16x128x1 : Shape := ⟨5, ![4, 64, 16, 128, 1]⟩
abbrev S4x64x16x64x128 : Shape := ⟨5, ![4, 64, 16, 64, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x1024, .bf16⟩
  | .hbm, ⟨3, _⟩ => ⟨S4x1024x8192, .bf16⟩
  | .hbm, ⟨4, _⟩ => ⟨S16x640x256, .f32⟩
  | .hbm, ⟨5, _⟩ => ⟨S1024x1024, .f32⟩
  | .hbm, ⟨6, _⟩ => ⟨S4x8192x1024, .f32⟩
  | .hbm, ⟨7, _⟩ => ⟨S4x64x128x16x64, .f32⟩
  | .hbm, ⟨8, _⟩ => ⟨S4x8192x1024, .f32⟩
  | .hbm, ⟨9, _⟩ => ⟨S_, .i32⟩
  | .hbm, ⟨10, _⟩ => ⟨S_, .f32⟩
  | .hbm, ⟨11, _⟩ => ⟨S4x8704x1024, .f32⟩
  | .hbm, ⟨12, _⟩ => ⟨S4x68x128x16x64, .f32⟩
  | .hbm, ⟨13, _⟩ => ⟨S4x64x128x16x64, .f32⟩
  | .hbm, ⟨14, _⟩ => ⟨S4x64x128x16x64, .f32⟩
  | .hbm, ⟨15, _⟩ => ⟨S4x64x128x16x64, .f32⟩
  | .hbm, ⟨16, _⟩ => ⟨S4x64x128x16x64, .f32⟩
  | .hbm, ⟨17, _⟩ => ⟨S4x64x128x16x64, .f32⟩
  | .hbm, ⟨18, _⟩ => ⟨S4x64x640x16x64, .f32⟩
  | .hbm, ⟨19, _⟩ => ⟨S4x8192x1024, .bf16⟩
  | .hbm, ⟨20, _⟩ => ⟨S4x8192x1024, .f32⟩
  | .hbm, ⟨21, _⟩ => ⟨S_, .i32⟩
  | .hbm, ⟨22, _⟩ => ⟨S_, .f32⟩
  | .hbm, ⟨23, _⟩ => ⟨S4x8704x1024, .f32⟩
  | .hbm, ⟨24, _⟩ => ⟨S4x68x128x16x64, .f32⟩
  | .hbm, ⟨25, _⟩ => ⟨S4x64x128x16x64, .f32⟩
  | .hbm, ⟨26, _⟩ => ⟨S4x64x128x16x64, .f32⟩
  | .hbm, ⟨27, _⟩ => ⟨S4x64x128x16x64, .f32⟩
  | .hbm, ⟨28, _⟩ => ⟨S4x64x128x16x64, .f32⟩
  | .hbm, ⟨29, _⟩ => ⟨S4x64x128x16x64, .f32⟩
  | .hbm, ⟨30, _⟩ => ⟨S4x64x640x16x64, .f32⟩
  | .hbm, ⟨31, _⟩ => ⟨S8x640x256, .f32⟩
  | .hbm, ⟨32, _⟩ => ⟨S8x640x2x128, .f32⟩
  | .hbm, ⟨33, _⟩ => ⟨S8x2x128x640, .f32⟩
  | .hbm, ⟨34, _⟩ => ⟨S16x128x640, .f32⟩
  | .hbm, ⟨35, _⟩ => ⟨S4x64x16x128x640, .f32⟩
  | .hbm, ⟨36, _⟩ => ⟨S1x1x16x128x640, .f32⟩
  | .hbm, ⟨37, _⟩ => ⟨S4x64x16x128x640, .f32⟩
  | .hbm, ⟨38, _⟩ => ⟨S4x64x16x128x640, .f32⟩
  | .hbm, ⟨39, _⟩ => ⟨S64, .i32⟩
  | .hbm, ⟨40, _⟩ => ⟨S64x1, .i32⟩
  | .hbm, ⟨41, _⟩ => ⟨S_, .i32⟩
  | .hbm, ⟨42, _⟩ => ⟨S64x1, .i32⟩
  | .hbm, ⟨43, _⟩ => ⟨S64x1, .i32⟩
  | .hbm, ⟨44, _⟩ => ⟨S640, .i32⟩
  | .hbm, ⟨45, _⟩ => ⟨S1x640, .i32⟩
  | .hbm, ⟨46, _⟩ => ⟨S64x640, .i32⟩
  | .hbm, ⟨47, _⟩ => ⟨S64x640, .i32⟩
  | .hbm, ⟨48, _⟩ => ⟨S64x640, .i32⟩
  | .hbm, ⟨49, _⟩ => ⟨S_, .i32⟩
  | .hbm, ⟨50, _⟩ => ⟨S64x640, .i32⟩
  | .hbm, ⟨51, _⟩ => ⟨S64x640, .i1⟩
  | .hbm, ⟨52, _⟩ => ⟨S1x64x1x1x640, .i1⟩
  | .hbm, ⟨53, _⟩ => ⟨S_, .f32⟩
  | .hbm, ⟨54, _⟩ => ⟨S_, .f32⟩
  | .hbm, ⟨55, _⟩ => ⟨S4x64x16x128x640, .i1⟩
  | .hbm, ⟨56, _⟩ => ⟨S4x64x16x128x640, .f32⟩
  | .hbm, ⟨57, _⟩ => ⟨S4x64x16x128x640, .f32⟩
  | .hbm, ⟨58, _⟩ => ⟨S_, .f32⟩
  | .hbm, ⟨59, _⟩ => ⟨S4x64x16x128, .f32⟩
  | .hbm, ⟨60, _⟩ => ⟨S4x64x16x128x1, .f32⟩
  | .hbm, ⟨61, _⟩ => ⟨S4x64x16x128x640, .f32⟩
  | .hbm, ⟨62, _⟩ => ⟨S4x64x16x128x640, .f32⟩
  | .hbm, ⟨63, _⟩ => ⟨S_, .f32⟩
  | .hbm, ⟨64, _⟩ => ⟨S4x64x16x128x640, .f32⟩
  | .hbm, ⟨65, _⟩ => ⟨S4x64x16x128x640, .f32⟩
  | .hbm, ⟨66, _⟩ => ⟨S_, .f32⟩
  | .hbm, ⟨67, _⟩ => ⟨S4x64x16x128, .f32⟩
  | .hbm, ⟨68, _⟩ => ⟨S4x64x16x128x1, .f32⟩
  | .hbm, ⟨69, _⟩ => ⟨S4x64x16x128x640, .f32⟩
  | .hbm, ⟨70, _⟩ => ⟨S4x64x16x128x640, .f32⟩
  | .hbm, ⟨71, _⟩ => ⟨S4x64x16x64x128, .f32⟩
  | .hbm, ⟨72, _⟩ => ⟨S4x64x128x16x64, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Proof.Ffn.Common.lean ====
/-
  The feed-forward layer's arithmetic on the extended reals, and one 256-column block of the kernel's body read at an index.
-/
module

public import proofs.«01_k».proof.Proof.Gen.Kernel2Ideal.Skeleton
public import Idealize.ShloMosaic.Lib.Pointwise
public import Idealize.ShloMosaic.Lib.ValueIdx

@[expose] public section

noncomputable section

open Idealize.ShloMosaic Idealize.ShloMosaic.TcCoe Idealize.SL.Sem

namespace Cert.Ffn

open Cert.Kernel2Ideal Cert.Kernel2Ideal.Gen

/-- One entry of a row scaled to unit mean square and multiplied by the gain. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A normalised row times one column of a projection. -/
def proj (x g : Fin 1024 → EReal) (w : Fin 1024 → EReal) : EReal := ∑ k : Fin 1024, rms x g k * w k

/-- The three-tap causal filter with its bias. -/
def conv (a2 a1 a0 c0 c1 c2 cb : EReal) : EReal := a2 * c0 + a1 * c1 + a0 * c2 + cb

/-- The gated unit. -/
def unit (z v : EReal) : EReal := z * Ideal.logistic z * v

/-- One block of 256 columns of the gated units, as the kernel's body makes it. -/
def blkU (h : FVec Ideal S1024x1024 .bf16) (wg wv : FVec Ideal S1024x256 .bf16) (pv : FVec Ideal S8x256 .f32)
    (c0 c1 c2 cb : FVec Ideal S1x256 .f32) : FVec Ideal S1024x256 .bf16 :=
  k0_pay10 (k0_pay9 (k0_pay11 h wg) (k0_pay12 h wv) pv c0 c1 c2 cb)

theorem pay5_apply (x : Vec Ideal S1024x1024 .f32) (g : Vec Ideal S1x1024 .f32) (r k : Fin 1024) :
    k0_pay5 x g (ix2 r k) = rms (fun k => x (ix2 r k)) (fun k => g (ix2 0 k)) k := by
  unfold rms
  pointwise [k0_pay5, k0_pay4]

theorem pay11_apply (h : FVec Ideal S1024x1024 .bf16) (w : FVec Ideal S1024x256 .bf16) (r : Fin 1024) (f : Fin 256) :
    k0_pay11 h w (ix2 r f) = ∑ k : Fin 1024, h (ix2 r k) * w (ix2 k f) := by
  pointwise [k0_pay11]

theorem pay12_apply (h : FVec Ideal S1024x1024 .bf16) (w : FVec Ideal S1024x256 .bf16) (r : Fin 1024) (f : Fin 256) :
    k0_pay12 h w (ix2 r f) = ∑ k : Fin 1024, h (ix2 r k) * w (ix2 k f) := by
  pointwise [k0_pay12]

theorem pay13_apply (h : FVec Ideal S1024x1024 .bf16) (w : FVec Ideal S1024x256 .bf16) (r : Fin 8) (f : Fin 256) :
    k0_pay13 h w (ix2 r f) = ∑ k : Fin 1024, h (ix2 ⟨1016 + r.val, by omega⟩ k) * w (ix2 k f) := by
  pointwise [k0_pay13, k0_pay11]

/-- The filter's input `d` rows above row `r`: of this tile's rows where there are as many, of the rows kept from the tile before otherwise. -/
def above (A : Fin 1024 → EReal) (p : Fin 8 → EReal) (d : ℕ) (r : Fin 1024) : EReal :=
  if h : r.val < d then p ⟨(8 - d + r.val) % 8, Nat.mod_lt _ (by decide)⟩ else A ⟨r.val - d, by omega⟩

theorem slt_small (r d : ℕ) (hr : r < 8) (hd : d < 8) :
    IntOp.cmpi CmpIPredicate.slt (BitVec.ofNat 32 r) (BitVec.ofNat 32 d) = if r < d then 1#1 else 0#1 := by
  interval_cases r <;> interval_cases d <;> decide

theorem shift_eq (A : S1024x256.Idx → EReal) (p : S8x256.Idx → EReal) (r : Fin 1024) (f : Fin 256) (d : ℕ) (hd : d < 8)
    (q1 : (r.val + 8 - d) % 8 < 8) (q2 : (r.val + 1024 - d) % 1024 < 1024) (q3 : (8 + (r.val - 8) + 1024 - d) % 1024 < 1024) :
    (if r.val < 8 then
      Scalar.select (IntOp.cmpi CmpIPredicate.slt (BitVec.ofNat 32 r.val) (BitVec.ofNat 32 d))
        (p (ix2 ⟨(r.val + 8 - d) % 8, q1⟩ f)) (A (ix2 ⟨(r.val + 1024 - d) % 1024, q2⟩ f))
     else A (ix2 ⟨(8 + (r.val - 8) + 1024 - d) % 1024, q3⟩ f))
      = above (fun r => A (ix2 r f)) (fun r => p (ix2 r f)) d r := by
  have hr := r.isLt
  unfold above
  by_cases h8 : r.val < 8
  · rw [if_pos h8, slt_small _ _ h8 hd]
    by_cases h : r.val < d
    · rw [if_pos h, dif_pos h]
      show p _ = p _
      congr 2
      apply Fin.ext
      show (r.val + 8 - d) % 8 = (8 - d + r.val) % 8
      congr 1
      omega
    · rw [if_neg h, dif_neg h]
      show A _ = A _
      congr 2
      apply Fin.ext
      show (r.val + 1024 - d) % 1024 = r.val - d
      omega
  · have h : ¬ r.val < d := by omega
    rw [if_neg h8, dif_neg h]
    congr 2
    apply Fin.ext
    show (8 + (r.val - 8) + 1024 - d) % 1024 = r.val - d
    omega

theorem blkU_apply (h : FVec Ideal S1024x1024 .bf16) (wg wv : FVec Ideal S1024x256 .bf16) (pv : FVec Ideal S8x256 .f32)
    (c0 c1 c2 cb : FVec Ideal S1x256 .f32) (r : Fin 1024) (f : Fin 256) :
    blkU h wg wv pv c0 c1 c2 cb (ix2 r f)
      = unit (conv (above (fun r => k0_pay11 h wg (ix2 r f)) (fun r => pv (ix2 r f)) 2 r)
          (above (fun r => k0_pay11 h wg (ix2 r f)) (fun r => pv (ix2 r f)) 1 r)
          (k0_pay11 h wg (ix2 r f)) (c0 (ix2 0 f)) (c1 (ix2 0 f)) (c2 (ix2 0 f)) (cb (ix2 0 f)))
          (k0_pay12 h wv (ix2 r f)) := by
  unfold blkU
  generalize k0_pay11 h wg = A
  generalize k0_pay12 h wv = B
  unfold unit conv
  rw [← shift_eq A pv r f 1 (by decide) (Nat.mod_lt _ (by decide)) (Nat.mod_lt _ (by decide)) (Nat.mod_lt _ (by decide)),
    ← shift_eq A pv r f 2 (by decide) (Nat.mod_lt _ (by decide)) (Nat.mod_lt _ (by decide)) (Nat.mod_lt _ (by decide))]
  pointwise [k0_pay9, k0_pay10]
  rfl

end Cert.Ffn

end
-- ==== Proof.Ffn.Block.lean ====
/-
  What one grid point of the feed-forward kernel leaves in its output block and in the rows it keeps for the next point.
-/
module

public import proofs.«01_k».proof.Proof.Gen.Kernel2Ideal.Value
public import proofs.«01_k».proof.Proof.Ffn.Common
public import Idealize.ShloMosaic.Lib.Pipeline.ValueKit

@[expose] public section

noncomputable section

open Idealize.ShloMosaic Idealize.ShloMosaic.TcCoe Idealize.SL.Sem

namespace Cert.Ffn

open Cert.Kernel2Ideal Cert.Kernel2Ideal.Gen

/-- The gate's projection of row `r` of a tile, column `f`. -/
def gateT (X : S1024x1024.Idx → EReal) (g : S1x1024.Idx → EReal) (W : S1024x2816.Idx → EReal) (r : Fin 1024) (f : Fin 2816) : EReal :=
  proj (fun k => X (ix2 r k)) (fun k => g (ix2 0 k)) (fun k => W (ix2 k f))

/-- The gated unit at row `r`, column `f` of a tile, the filter reaching into the kept rows `C`. -/
def unitT (X : S1024x1024.Idx → EReal) (g : S1x1024.Idx → EReal) (Wg Wv : S1024x2816.Idx → EReal) (cw : S3x2816.Idx → EReal)
    (cb : S1x2816.Idx → EReal) (C : S8x2816.Idx → EReal) (r : Fin 1024) (f : Fin 2816) : EReal :=
  unit (conv (above (fun r => gateT X g Wg r f) (fun r => C (ix2 r f)) 2 r)
    (above (fun r => gateT X g Wg r f) (fun r => C (ix2 r f)) 1 r)
    (gateT X g Wg r f) (cw (ix2 0 f)) (cw (ix2 1 f)) (cw (ix2 2 f)) (cb (ix2 0 f))) (gateT X g Wv r f)

/-- The rows a point keeps: the last eight rows of its gate projection. -/
def keepT (X : S1024x1024.Idx → EReal) (g : S1x1024.Idx → EReal) (W : S1024x2816.Idx → EReal) : S8x2816.Idx → EReal := fun y =>
  gateT X g W ⟨1016 + (y 0).val, by have h : (y 0).val < 8 := (y 0).isLt; omega⟩ (y 1)

/-- The block a point writes. -/
def outT (X : S1024x1024.Idx → EReal) (g : S1x1024.Idx → EReal) (Wg Wv : S1024x2816.Idx → EReal) (cw : S3x2816.Idx → EReal)
    (cb : S1x2816.Idx → EReal) (Wo : S2816x1024.Idx → EReal) (C : S8x2816.Idx → EReal) : S1024x1024.Idx → EReal := fun y =>
  X y + ∑ f : Fin 2816, unitT X g Wg Wv cw cb C (y 0) f * Wo (ix2 f (y 1))

theorem pay11_ld (X : Vec Ideal S1024x1024 .f32) (g : Vec Ideal S1x1024 .f32) (W : Vec Ideal S1024x2816 .bf16) (o : ℕ)
    (inb : ∀ a, (![0, o] : Fin 2 → ℕ) a + (![1024, 256] : Fin 2 → ℕ) a ≤ S1024x2816.size a) (r : Fin 1024) (f : Fin 256) (f' : Fin 2816)
    (hf : f'.val = o + f.val) :
    k0_pay11 (k0_pay5 X g) (View.ld W (Rect.unit (s := S1024x2816) ![0, o] ![1024, 256] inb)) (ix2 r f) = gateT X g W r f' := by
  rw [pay11_apply]
  unfold gateT proj
  refine Finset.sum_congr rfl fun k _ => ?_
  rw [pay5_apply]
  congr 1
  show W _ = W _
  congr 1
  funext a
  match a with
  | ⟨0, _⟩ => apply Fin.ext; show 0 + 1 * k.val = k.val; omega
  | ⟨1, _⟩ => apply Fin.ext; show o + 1 * f.val = f'.val; omega

theorem keep_at (X : Vec Ideal S1024x1024 .f32) (g : Vec Ideal S1x1024 .f32) (W : Vec Ideal S1024x2816 .bf16) (o : ℕ)
    (inb : ∀ a, (![0, o] : Fin 2 → ℕ) a + (![1024, 256] : Fin 2 → ℕ) a ≤ S1024x2816.size a) (r : Fin 8) (f : Fin 256) (f' : Fin 2816)
    (hf : f'.val = o + f.val) :
    k0_pay13 (k0_pay5 X g) (View.ld W (Rect.unit (s := S1024x2816) ![0, o] ![1024, 256] inb)) (ix2 r f) = keepT X g W (ix2 r f') := by
  have e : k0_pay13 (k0_pay5 X g) (View.ld W (Rect.unit (s := S1024x2816) ![0, o] ![1024, 256] inb)) (ix2 r f)
      = k0_pay11 (k0_pay5 X g) (View.ld W (Rect.unit (s := S1024x2816) ![0, o] ![1024, 256] inb)) (ix2 ⟨1016 + r.val, by omega⟩ f) := by
    rw [pay11_apply, pay13_apply]
  rw [e, pay11_ld X g W o inb _ f f' hf]
  rfl

theorem keep_piece (X : Vec Ideal S1024x1024 .f32) (g : Vec Ideal S1x1024 .f32) (W : Vec Ideal S1024x2816 .bf16) (o : ℕ)
    (inb : ∀ a, (![0, o] : Fin 2 → ℕ) a + (![1024, 256] : Fin 2 → ℕ) a ≤ S1024x2816.size a) (x : S8x256.Idx) (y : S8x2816.Idx)
    (h0 : (y 0).val = (x 0).val) (h1 : (y 1).val = o + (x 1).val) :
    k0_pay13 (k0_pay5 X g) (View.ld W (Rect.unit (s := S1024x2816) ![0, o] ![1024, 256] inb)) x = keepT X g W y := by
  have e0 : (y 0 : Fin 8) = x 0 := Fin.ext h0
  have ey : y = ix2 (x 0 : Fin 8) (y 1 : Fin 2816) := by
    rw [← e0]; exact eq_ix2 y
  rw [ey]
  exact (congrArg _ (eq_ix2 x)).trans (keep_at X g W o inb (x 0) (x 1) (y 1) h1)

theorem unit_at (X : Vec Ideal S1024x1024 .f32) (g : Vec Ideal S1x1024 .f32) (Wg Wv : Vec Ideal S1024x2816 .bf16)
    (cw : Vec Ideal S3x2816 .f32) (cb : Vec Ideal S1x2816 .f32) (C : Vec Ideal S8x2816 .f32) (pv : FVec Ideal S8x256 .f32) (o : ℕ)
    (inb inb') (inb0 inb1 inb2) (inbb) (r : Fin 1024) (f : Fin 256) (f' : Fin 2816) (h1 : f'.val = o + f.val)
    (hp : ∀ (r : Fin 8), pv (ix2 r f) = C (ix2 r f')) :
    blkU (k0_pay5 X g) (View.ld Wg (Rect.unit (s := S1024x2816) ![0, o] ![1024, 256] inb))
      (View.ld Wv (Rect.unit (s := S1024x2816) ![0, o] ![1024, 256] inb')) pv
      (View.ld cw (Rect.unit (s := S3x2816) ![0, o] ![1, 256] inb0)) (View.ld cw (Rect.unit (s := S3x2816) ![1, o] ![1, 256] inb1))
      (View.ld cw (Rect.unit (s := S3x2816) ![2, o] ![1, 256] inb2)) (View.ld cb (Rect.unit (s := S1x2816) ![0, o] ![1, 256] inbb)) (ix2 r f)
      = unitT X g Wg Wv cw cb C r f' := by
  have lw : ∀ (j : ℕ) (j' : Fin 3) (hj : j'.val = j) (ib : ∀ a, (![j, o] : Fin 2 → ℕ) a + (![1, 256] : Fin 2 → ℕ) a ≤ S3x2816.size a),
      View.ld cw (Rect.unit (s := S3x2816) ![j, o] ![1, 256] ib) (ix2 (0 : Fin 1) f) = cw (ix2 j' f') := by
    intro j j' hj ib
    show cw _ = cw _
    congr 1
    funext a
    match a with
    | ⟨0, _⟩ => apply Fin.ext; show j + 1 * 0 = j'.val; omega
    | ⟨1, _⟩ => apply Fin.ext; show o + 1 * f.val = f'.val; omega
  have lb : View.ld cb (Rect.unit (s := S1x2816) ![0, o] ![1, 256] inbb) (ix2 (0 : Fin 1) f) = cb (ix2 0 f') := by
    show cb _ = cb _
    congr 1
    funext a
    match a with
    | ⟨0, _⟩ => apply Fin.ext; show 0 + 1 * 0 = 0; omega
    | ⟨1, _⟩ => apply Fin.ext; show o + 1 * f.val = f'.val; omega
  have ep : k0_pay12 (k0_pay5 X g) (View.ld Wv (Rect.unit (s := S1024x2816) ![0, o] ![1024, 256] inb')) (ix2 r f) = gateT X g Wv r f' := by
    rw [pay12_apply, ← pay11_apply]
    exact pay11_ld X g Wv o inb' r f f' h1
  have eg : ∀ r : Fin 1024, k0_pay11 (k0_pay5 X g) (View.ld Wg (Rect.unit (s := S1024x2816) ![0, o] ![1024, 256] inb)) (ix2 r f) = gateT X g Wg r f' :=
    fun r => pay11_ld X g Wg o inb r f f' h1
  rw [blkU_apply]
  unfold unitT
  simp only [eg, ep, hp, lb, lw 0 0 rfl, lw 1 1 rfl, lw 2 2 rfl]

theorem unit_piece (X : Vec Ideal S1024x1024 .f32) (g : Vec Ideal S1x1024 .f32) (Wg Wv : Vec Ideal S1024x2816 .bf16)
    (cw : Vec Ideal S3x2816 .f32) (cb : Vec Ideal S1x2816 .f32) (C : Vec Ideal S8x2816 .f32) (pv : FVec Ideal S8x256 .f32) (o : ℕ)
    (inb inb') (inb0 inb1 inb2) (inbb) (x : S1024x256.Idx) (r : Fin 1024) (f : Fin 2816)
    (h0 : r.val = (x 0).val) (h1 : f.val = o + (x 1).val)
    (hp : ∀ (r : Fin 8) (l : Fin 256) (f' : Fin 2816), f'.val = o + l.val → pv (ix2 r l) = C (ix2 r f')) :
    blkU (k0_pay5 X g) (View.ld Wg (Rect.unit (s := S1024x2816) ![0, o] ![1024, 256] inb))
      (View.ld Wv (Rect.unit (s := S1024x2816) ![0, o] ![1024, 256] inb')) pv
      (View.ld cw (Rect.unit (s := S3x2816) ![0, o] ![1, 256] inb0)) (View.ld cw (Rect.unit (s := S3x2816) ![1, o] ![1, 256] inb1))
      (View.ld cw (Rect.unit (s := S3x2816) ![2, o] ![1, 256] inb2)) (View.ld cb (Rect.unit (s := S1x2816) ![0, o] ![1, 256] inbb)) x
      = unitT X g Wg Wv cw cb C r f := by
  have e0 : r = (x 0 : Fin 1024) := Fin.ext h0
  rw [e0]
  exact (congrArg _ (eq_ix2 x)).trans (unit_at X g Wg Wv cw cb C pv o inb inb' inb0 inb1 inb2 inbb (x 0) (x 1) f h1 fun r => hp r _ _ h1)

theorem ld_keep (C : Vec Ideal S8x2816 .f32) (o : ℕ) (inb : ∀ a, (![0, o] : Fin 2 → ℕ) a + (![8, 256] : Fin 2 → ℕ) a ≤ S8x2816.size a)
    (r : Fin 8) (l : Fin 256) (f' : Fin 2816) (h : f'.val = o + l.val) :
    View.ld C (Rect.unit (s := S8x2816) ![0, o] ![8, 256] inb) (ix2 r l) = C (ix2 r f') := by
  show C _ = C _
  congr 1
  funext a
  match a with
  | ⟨0, _⟩ => apply Fin.ext; show 0 + 1 * r.val = r.val; omega
  | ⟨1, _⟩ => apply Fin.ext; show o + 1 * l.val = f'.val; omega

/-- A load of a column block does not see a store into an earlier one. -/
theorem readCov_skip {sig : RefSig} {κ : Kind} {sp : Space} (v : View sig κ sp S8x2816 .f32) (o' o : ℕ) (h : o' + 256 ≤ o)
    (inb' : ∀ a, (![0, o'] : Fin 2 → ℕ) a + (![8, 256] : Fin 2 → ℕ) a ≤ S8x2816.size a)
    (inb : ∀ a, (![0, o] : Fin 2 → ℕ) a + (![8, 256] : Fin 2 → ℕ) a ≤ S8x2816.size a)
    (w : (Rect.unit (s := S8x2816) ![0, o'] ![8, 256] inb').shape.Idx → Elt Ideal .f32) (L : List (View.Piece (Elt Ideal) S8x2816 .f32)) :
    v.readCov (⟨Rect.unit (s := S8x2816) ![0, o'] ![8, 256] inb', w⟩ :: L) (Rect.unit (s := S8x2816) ![0, o] ![8, 256] inb).toLoadRect
      = v.readCov L (Rect.unit (s := S8x2816) ![0, o] ![8, 256] inb).toLoadRect := by
  rw [View.readCov_eq_canon', View.readCov_eq_canon']
  funext j
  refine View.canon_cons_of_not_mem _ _ fun hm => ?_
  obtain ⟨k, hk, e⟩ := (LoadRect.mem_set _).mp hm 1
  have e : o + 1 * (j 1).val = o' + 1 * k := e
  have hk : k < 256 := hk
  omega

/-- After the rows kept were set to zero, a load of a column block of them reads zero. -/
theorem readCov_zero {sig : RefSig} {κ : Kind} {sp : Space} (v : View sig κ sp S8x2816 .f32) (o : ℕ)
    (inb' : ∀ a, (![0, 0] : Fin 2 → ℕ) a + (![8, 2816] : Fin 2 → ℕ) a ≤ S8x2816.size a)
    (inb : ∀ a, (![0, o] : Fin 2 → ℕ) a + (![8, 256] : Fin 2 → ℕ) a ≤ S8x2816.size a)
    (j : (Rect.unit (s := S8x2816) ![0, o] ![8, 256] inb).shape.Idx) :
    v.readCov (Val := Elt Ideal) [⟨Rect.unit (s := S8x2816) ![0, 0] ![8, 2816] inb', k0_pay3 (F := Ideal)⟩] (Rect.unit (s := S8x2816) ![0, o] ![8, 256] inb).toLoadRect j = (0 : EReal) := by
  rw [View.readCov_eq_canon']
  have e : (Rect.unit (s := S8x2816) ![0, o] ![8, 256] inb).toLoadRect.idx j
      = (Rect.unit (s := S8x2816) ![0, 0] ![8, 2816] inb').emb (ix2 (⟨(j 0).val, (j 0).isLt⟩ : Fin 8) (⟨o + (j 1).val, by
          have h : (j 1).val < 256 := (j 1).isLt
          have h2 : o + 256 ≤ 2816 := inb 1
          omega⟩ : Fin 2816)) := by
    funext a
    match a with
    | ⟨0, _⟩ => apply Fin.ext; show 0 + 1 * (j 0).val = 0 + 1 * (j 0).val; rfl
    | ⟨1, _⟩ => apply Fin.ext; show o + 1 * (j 1).val = 0 + 1 * (o + (j 1).val); omega
  show View.canon _ _ = _
  rw [e, View.canon_cons_emb]
  pointwise [k0_pay3]

/-- Earlier stores that later ones hide at an index do not matter there. -/
theorem canon_hide {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨x, rfl⟩ : ∃ x, p.1.emb x = y := p.1.exists_idx_of_mem hy
      obtain ⟨r, w⟩ := p
      rw [List.cons_append, View.canon_cons_emb, View.canon_cons_emb]
    · rw [List.cons_append, View.canon_cons_of_not_mem _ _ hy, View.canon_cons_of_not_mem _ _ hy]
      obtain ⟨q, hq, hqy⟩ := h
      rcases List.mem_cons.mp hq with rfl | hq
      · exact absurd hqy hy
      · exact ih ⟨q, hq, hqy⟩

/-- The last product: the tile plus its gated units times the output matrix. -/
theorem pay2_at (X : FVec Ideal S1024x1024 .f32) (U : Vec Ideal S1024x2816 .bf16) (Wo : Vec Ideal S2816x1024 .bf16)
    (u : Fin 1024 → Fin 2816 → EReal) (y : S1024x1024.Idx) (v : EReal)
    (hU : ∀ r f, U (ix2 r f) = u r f) (hv : v = X y + ∑ f : Fin 2816, u (y 0) f * Wo (ix2 f (y 1))) :
    k0_pay2 (k0_pay4 X) U Wo y = v := by
  obtain rfl : u = fun r f => U (ix2 r f) := by funext r f; exact (hU r f).symm
  rw [hv]
  pointwise [k0_pay2, k0_pay4]

theorem soutB (c i arg1 harg1 arg2 harg2 arg3 harg3 arg4 harg4 arg5 harg5 arg6 harg6 arg7 harg7 arg8 harg8 arg9 harg9 arg10 harg10 hc0 x0 x1 x2 x3 x4 x5 x6 xs0) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 xs0 = keepT x0 x1 x2 := by
  funext y
  frame_out
  canon_tiles x h
  all_goals exact keep_piece x0 x1 x2 _ _ x y (by omega) (by omega)

theorem soutA (c i arg1 harg1 arg2 harg2 arg3 harg3 arg4 harg4 arg5 harg5 arg6 harg6 arg7 harg7 arg8 harg8 arg9 harg9 arg10 harg10 hc0 x0 x1 x2 x3 x4 x5 x6) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 = keepT x0 x1 x2 := by
  funext y
  frame_out
  refine (canon_hide [_, _, _, _, _, _, _, _, _, _, _] [_] y (View.cover_of_tiled_head _ _ _ (by rfl) y)).trans ?_
  canon_tiles x h
  all_goals exact keep_piece x0 x1 x2 _ _ x y (by omega) (by omega)

end Cert.Ffn

end
-- ==== Proof.Ffn.Point.lean ====
module

public import proofs.«01_k».proof.Proof.Ffn.Block

@[expose] public section
namespace Cert.Ffn
open Idealize.ShloMosaic Idealize.ShloMosaic.TcCoe Idealize.SL.Sem
open Cert.Kernel2Ideal Cert.Kernel2Ideal.Gen
/-- No rows kept: zero everywhere. -/
noncomputable def zeroK : Vec Ideal S8x2816 .f32 := fun _ => (0 : EReal)

/-- A load of a column block of the rows set to zero. -/
theorem readCov_zero_eq {sig : RefSig} {κ : Kind} {sp : Space} (v : View sig κ sp S8x2816 .f32) (o : ℕ)
    (inb' : ∀ a, (![0, 0] : Fin 2 → ℕ) a + (![8, 2816] : Fin 2 → ℕ) a ≤ S8x2816.size a)
    (inb : ∀ a, (![0, o] : Fin 2 → ℕ) a + (![8, 256] : Fin 2 → ℕ) a ≤ S8x2816.size a) :
    v.readCov (Val := Elt Ideal) [⟨Rect.unit (s := S8x2816) ![0, 0] ![8, 2816] inb', k0_pay3 (F := Ideal)⟩] (Rect.unit (s := S8x2816) ![0, o] ![8, 256] inb).toLoadRect
      = View.ld zeroK (Rect.unit (s := S8x2816) ![0, o] ![8, 256] inb) :=
  funext fun j => readCov_zero v o inb' inb j

set_option maxHeartbeats 1000000 in
theorem outB (c i arg1 harg1 arg2 harg2 arg3 harg3 arg4 harg4 arg5 harg5 arg6 harg6 arg7 harg7 arg8 harg8 arg9 harg9 arg10 harg10 hc0 x0 x1 x2 x3 x4 x5 x6 xs0) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xs0 = outT x0 x1 x2 x3 x4 x5 x6 xs0 := by
  funext y
  frame_out
  refine pay2_at _ _ _ (unitT x0 x1 x2 x3 x4 x5 xs0) y _ ?_ rfl
  intro r f
  rw [View.readCov_eq_canon']
  show View.canon _ _ = _
  canon_tiles x h
  case piece0 =>
    have key := unit_piece x0 x1 x2 x3 x4 x5 xs0 (View.ld xs0 (Rect.unit (s := S8x2816) ![0, 2560] ![8, 256] inb_S8x2816_S8x256_0_2560)) 2560 inb_S1024x2816_S1024x256_0_2560 inb_S1024x2816_S1024x256_0_2560 inb_S3x2816_S1x256_0_2560 inb_S3x2816_S1x256_1_2560 inb_S3x2816_S1x256_2_2560 inb_S1x2816_S1x256_0_2560 x r f (by simpa using h0) (by simpa using h1) (ld_keep _ _ _)
    exact Eq.trans (congrFun (by rfl) x) key
  case piece1 =>
    have key := unit_piece x0 x1 x2 x3 x4 x5 xs0 (View.ld xs0 (Rect.unit (s := S8x2816) ![0, 2304] ![8, 256] inb_S8x2816_S8x256_0_2304)) 2304 inb_S1024x2816_S1024x256_0_2304 inb_S1024x2816_S1024x256_0_2304 inb_S3x2816_S1x256_0_2304 inb_S3x2816_S1x256_1_2304 inb_S3x2816_S1x256_2_2304 inb_S1x2816_S1x256_0_2304 x r f (by simpa using h0) (by simpa using h1) (ld_keep _ _ _)
    exact Eq.trans (congrFun (by rfl) x) key
  case piece2 =>
    have key := unit_piece x0 x1 x2 x3 x4 x5 xs0 (View.ld xs0 (Rect.unit (s := S8x2816) ![0, 2048] ![8, 256] inb_S8x2816_S8x256_0_2048)) 2048 inb_S1024x2816_S1024x256_0_2048 inb_S1024x2816_S1024x256_0_2048 inb_S3x2816_S1x256_0_2048 inb_S3x2816_S1x256_1_2048 inb_S3x2816_S1x256_2_2048 inb_S1x2816_S1x256_0_2048 x r f (by simpa using h0) (by simpa using h1) (ld_keep _ _ _)
    exact Eq.trans (congrFun (by rfl) x) key
  case piece3 =>
    have key := unit_piece x0 x1 x2 x3 x4 x5 xs0 (View.ld xs0 (Rect.unit (s := S8x2816) ![0, 1792] ![8, 256] inb_S8x2816_S8x256_0_1792)) 1792 inb_S1024x2816_S1024x256_0_1792 inb_S1024x2816_S1024x256_0_1792 inb_S3x2816_S1x256_0_1792 inb_S3x2816_S1x256_1_1792 inb_S3x2816_S1x256_2_1792 inb_S1x2816_S1x256_0_1792 x r f (by simpa using h0) (by simpa using h1) (ld_keep _ _ _)
    exact Eq.trans (congrFun (by rfl) x) key
  case piece4 =>
    have key := unit_piece x0 x1 x2 x3 x4 x5 xs0 (View.ld xs0 (Rect.unit (s := S8x2816) ![0, 1536] ![8, 256] inb_S8x2816_S8x256_0_1536)) 1536 inb_S1024x2816_S1024x256_0_1536 inb_S1024x2816_S1024x256_0_1536 inb_S3x2816_S1x256_0_1536 inb_S3x2816_S1x256_1_1536 inb_S3x2816_S1x256_2_1536 inb_S1x2816_S1x256_0_1536 x r f (by simpa using h0) (by simpa using h1) (ld_keep _ _ _)
    exact Eq.trans (congrFun (by rfl) x) key
  case piece5 =>
    have key := unit_piece x0 x1 x2 x3 x4 x5 xs0 (View.ld xs0 (Rect.unit (s := S8x2816) ![0, 1280] ![8, 256] inb_S8x2816_S8x256_0_1280)) 1280 inb_S1024x2816_S1024x256_0_1280 inb_S1024x2816_S1024x256_0_1280 inb_S3x2816_S1x256_0_1280 inb_S3x2816_S1x256_1_1280 inb_S3x2816_S1x256_2_1280 inb_S1x2816_S1x256_0_1280 x r f (by simpa using h0) (by simpa using h1) (ld_keep _ _ _)
    exact Eq.trans (congrFun (by rfl) x) key
  case piece6 =>
    have key := unit_piece x0 x1 x2 x3 x4 x5 xs0 (View.ld xs0 (Rect.unit (s := S8x2816) ![0, 1024] ![8, 256] inb_S8x2816_S8x256_0_1024)) 1024 inb_S1024x2816_S1024x256_0_1024 inb_S1024x2816_S1024x256_0_1024 inb_S3x2816_S1x256_0_1024 inb_S3x2816_S1x256_1_1024 inb_S3x2816_S1x256_2_1024 inb_S1x2816_S1x256_0_1024 x r f (by simpa using h0) (by simpa using h1) (ld_keep _ _ _)
    exact Eq.trans (congrFun (by rfl) x) key
  case piece7 =>
    have key := unit_piece x0 x1 x2 x3 x4 x5 xs0 (View.ld xs0 (Rect.unit (s := S8x2816) ![0, 768] ![8, 256] inb_S8x2816_S8x256_0_768)) 768 inb_S1024x2816_S1024x256_0_768 inb_S1024x2816_S1024x256_0_768 inb_S3x2816_S1x256_0_768 inb_S3x2816_S1x256_1_768 inb_S3x2816_S1x256_2_768 inb_S1x2816_S1x256_0_768 x r f (by simpa using h0) (by simpa using h1) (ld_keep _ _ _)
    exact Eq.trans (congrFun (by rfl) x) key
  case piece8 =>
    have key := unit_piece x0 x1 x2 x3 x4 x5 xs0 (View.ld xs0 (Rect.unit (s := S8x2816) ![0, 512] ![8, 256] inb_S8x2816_S8x256_0_512)) 512 inb_S1024x2816_S1024x256_0_512 inb_S1024x2816_S1024x256_0_512 inb_S3x2816_S1x256_0_512 inb_S3x2816_S1x256_1_512 inb_S3x2816_S1x256_2_512 inb_S1x2816_S1x256_0_512 x r f (by simpa using h0) (by simpa using h1) (ld_keep _ _ _)
    exact Eq.trans (congrFun (by rfl) x) key
  case piece9 =>
    have key := unit_piece x0 x1 x2 x3 x4 x5 xs0 (View.ld xs0 (Rect.unit (s := S8x2816) ![0, 256] ![8, 256] inb_S8x2816_S8x256_0_256)) 256 inb_S1024x2816_S1024x256_0_256 inb_S1024x2816_S1024x256_0_256 inb_S3x2816_S1x256_0_256 inb_S3x2816_S1x256_1_256 inb_S3x2816_S1x256_2_256 inb_S1x2816_S1x256_0_256 x r f (by simpa using h0) (by simpa using h1) (ld_keep _ _ _)
    exact Eq.trans (congrFun (by rfl) x) key
  case piece10 =>
    have key := unit_piece x0 x1 x2 x3 x4 x5 xs0 (View.ld xs0 (Rect.unit (s := S8x2816) ![0, 0] ![8, 256] inb_S8x2816_S8x256_0_0)) 0 inb_S1024x2816_S1024x256_0_0 inb_S1024x2816_S1024x256_0_0 inb_S3x2816_S1x256_0_0 inb_S3x2816_S1x256_1_0 inb_S3x2816_S1x256_2_0 inb_S1x2816_S1x256_0_0 x r f (by simpa using h0) (by simpa using h1) (ld_keep _ _ _)
    exact Eq.trans (congrFun (by rfl) x) key

end Cert.Ffn
end
-- ==== Proof.Ffn.PointA.lean ====
module

public import proofs.«01_k».proof.Proof.Ffn.Point

@[expose] public section
namespace Cert.Ffn
open Idealize.ShloMosaic Idealize.ShloMosaic.TcCoe Idealize.SL.Sem
open Cert.Kernel2Ideal Cert.Kernel2Ideal.Gen
set_option maxHeartbeats 1000000 in
theorem outA (c i arg1 harg1 arg2 harg2 arg3 harg3 arg4 harg4 arg5 harg5 arg6 harg6 arg7 harg7 arg8 harg8 arg9 harg9 arg10 harg10 hc0 x0 x1 x2 x3 x4 x5 x6) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 = outT x0 x1 x2 x3 x4 x5 x6 zeroK := by
  funext y
  frame_out
  simp only [readCov_skip, readCov_zero_eq, Nat.reduceAdd, Nat.reduceLeDiff]
  refine pay2_at _ _ _ (unitT x0 x1 x2 x3 x4 x5 zeroK) y _ ?_ rfl
  intro r f
  rw [View.readCov_eq_canon']
  show View.canon _ _ = _
  canon_tiles x h
  case piece0 =>
    have key := unit_piece x0 x1 x2 x3 x4 x5 zeroK (View.ld zeroK (Rect.unit (s := S8x2816) ![0, 2560] ![8, 256] inb_S8x2816_S8x256_0_2560)) 2560 inb_S1024x2816_S1024x256_0_2560 inb_S1024x2816_S1024x256_0_2560 inb_S3x2816_S1x256_0_2560 inb_S3x2816_S1x256_1_2560 inb_S3x2816_S1x256_2_2560 inb_S1x2816_S1x256_0_2560 x r f (by simpa using h0) (by simpa using h1) (ld_keep _ _ _)
    exact Eq.trans (congrFun (by rfl) x) key
  case piece1 =>
    have key := unit_piece x0 x1 x2 x3 x4 x5 zeroK (View.ld zeroK (Rect.unit (s := S8x2816) ![0, 2304] ![8, 256] inb_S8x2816_S8x256_0_2304)) 2304 inb_S1024x2816_S1024x256_0_2304 inb_S1024x2816_S1024x256_0_2304 inb_S3x2816_S1x256_0_2304 inb_S3x2816_S1x256_1_2304 inb_S3x2816_S1x256_2_2304 inb_S1x2816_S1x256_0_2304 x r f (by simpa using h0) (by simpa using h1) (ld_keep _ _ _)
    exact Eq.trans (congrFun (by rfl) x) key
  case piece2 =>
    have key := unit_piece x0 x1 x2 x3 x4 x5 zeroK (View.ld zeroK (Rect.unit (s := S8x2816) ![0, 2048] ![8, 256] inb_S8x2816_S8x256_0_2048)) 2048 inb_S1024x2816_S1024x256_0_2048 inb_S1024x2816_S1024x256_0_2048 inb_S3x2816_S1x256_0_2048 inb_S3x2816_S1x256_1_2048 inb_S3x2816_S1x256_2_2048 inb_S1x2816_S1x256_0_2048 x r f (by simpa using h0) (by simpa using h1) (ld_keep _ _ _)
    exact Eq.trans (congrFun (by rfl) x) key
  case piece3 =>
    have key := unit_piece x0 x1 x2 x3 x4 x5 zeroK (View.ld zeroK (Rect.unit (s := S8x2816) ![0, 1792] ![8, 256] inb_S8x2816_S8x256_0_1792)) 1792 inb_S1024x2816_S1024x256_0_1792 inb_S1024x2816_S1024x256_0_1792 inb_S3x2816_S1x256_0_1792 inb_S3x2816_S1x256_1_1792 inb_S3x2816_S1x256_2_1792 inb_S1x2816_S1x256_0_1792 x r f (by simpa using h0) (by simpa using h1) (ld_keep _ _ _)
    exact Eq.trans (congrFun (by rfl) x) key
  case piece4 =>
    have key := unit_piece x0 x1 x2 x3 x4 x5 zeroK (View.ld zeroK (Rect.unit (s := S8x2816) ![0, 1536] ![8, 256] inb_S8x2816_S8x256_0_1536)) 1536 inb_S1024x2816_S1024x256_0_1536 inb_S1024x2816_S1024x256_0_1536 inb_S3x2816_S1x256_0_1536 inb_S3x2816_S1x256_1_1536 inb_S3x2816_S1x256_2_1536 inb_S1x2816_S1x256_0_1536 x r f (by simpa using h0) (by simpa using h1) (ld_keep _ _ _)
    exact Eq.trans (congrFun (by rfl) x) key
  case piece5 =>
    have key := unit_piece x0 x1 x2 x3 x4 x5 zeroK (View.ld zeroK (Rect.unit (s := S8x2816) ![0, 1280] ![8, 256] inb_S8x2816_S8x256_0_1280)) 1280 inb_S1024x2816_S1024x256_0_1280 inb_S1024x2816_S1024x256_0_1280 inb_S3x2816_S1x256_0_1280 inb_S3x2816_S1x256_1_1280 inb_S3x2816_S1x256_2_1280 inb_S1x2816_S1x256_0_1280 x r f (by simpa using h0) (by simpa using h1) (ld_keep _ _ _)
    exact Eq.trans (congrFun (by rfl) x) key
  case piece6 =>
    have key := unit_piece x0 x1 x2 x3 x4 x5 zeroK (View.ld zeroK (Rect.unit (s := S8x2816) ![0, 1024] ![8, 256] inb_S8x2816_S8x256_0_1024)) 1024 inb_S1024x2816_S1024x256_0_1024 inb_S1024x2816_S1024x256_0_1024 inb_S3x2816_S1x256_0_1024 inb_S3x2816_S1x256_1_1024 inb_S3x2816_S1x256_2_1024 inb_S1x2816_S1x256_0_1024 x r f (by simpa using h0) (by simpa using h1) (ld_keep _ _ _)
    exact Eq.trans (congrFun (by rfl) x) key
  case piece7 =>
    have key := unit_piece x0 x1 x2 x3 x4 x5 zeroK (View.ld zeroK (Rect.unit (s := S8x2816) ![0, 768] ![8, 256] inb_S8x2816_S8x256_0_768)) 768 inb_S1024x2816_S1024x256_0_768 inb_S1024x2816_S1024x256_0_768 inb_S3x2816_S1x256_0_768 inb_S3x2816_S1x256_1_768 inb_S3x2816_S1x256_2_768 inb_S1x2816_S1x256_0_768 x r f (by simpa using h0) (by simpa using h1) (ld_keep _ _ _)
    exact Eq.trans (congrFun (by rfl) x) key
  case piece8 =>
    have key := unit_piece x0 x1 x2 x3 x4 x5 zeroK (View.ld zeroK (Rect.unit (s := S8x2816) ![0, 512] ![8, 256] inb_S8x2816_S8x256_0_512)) 512 inb_S1024x2816_S1024x256_0_512 inb_S1024x2816_S1024x256_0_512 inb_S3x2816_S1x256_0_512 inb_S3x2816_S1x256_1_512 inb_S3x2816_S1x256_2_512 inb_S1x2816_S1x256_0_512 x r f (by simpa using h0) (by simpa using h1) (ld_keep _ _ _)
    exact Eq.trans (congrFun (by rfl) x) key
  case piece9 =>
    have key := unit_piece x0 x1 x2 x3 x4 x5 zeroK (View.ld zeroK (Rect.unit (s := S8x2816) ![0, 256] ![8, 256] inb_S8x2816_S8x256_0_256)) 256 inb_S1024x2816_S1024x256_0_256 inb_S1024x2816_S1024x256_0_256 inb_S3x2816_S1x256_0_256 inb_S3x2816_S1x256_1_256 inb_S3x2816_S1x256_2_256 inb_S1x2816_S1x256_0_256 x r f (by simpa using h0) (by simpa using h1) (ld_keep _ _ _)
    exact Eq.trans (congrFun (by rfl) x) key
  case piece10 =>
    have key := unit_piece x0 x1 x2 x3 x4 x5 zeroK (View.ld zeroK (Rect.unit (s := S8x2816) ![0, 0] ![8, 256] inb_S8x2816_S8x256_0_0)) 0 inb_S1024x2816_S1024x256_0_0 inb_S1024x2816_S1024x256_0_0 inb_S3x2816_S1x256_0_0 inb_S3x2816_S1x256_1_0 inb_S3x2816_S1x256_2_0 inb_S1x2816_S1x256_0_0 x r f (by simpa using h0) (by simpa using h1) (ld_keep _ _ _)
    exact Eq.trans (congrFun (by rfl) x) key

end Cert.Ffn
end
-- ==== Proof.Ffn.Value.lean ====
/-
  The array the feed-forward kernel writes, as one function of the arguments.
-/
module

public import proofs.«01_k».proof.Proof.Ffn.PointA
public import proofs.«01_k».proof.Proof.Gen.Kernel2Ideal.Value

@[expose] public section

noncomputable section

open Idealize.ShloMosaic Idealize.ShloMosaic.TcCoe Idealize.SL.Sem

namespace Cert.Ffn

open Cert.Kernel2Ideal Cert.Kernel2Ideal.Gen

/-- A projection of the normalised row `s` of sequence `b` onto column `f`. -/
def gateX (x : S4x8192x1024.Idx → EReal) (g : S1024.Idx → EReal) (W : S1024x2816.Idx → EReal) (b : Fin 4) (s : Fin 8192) (f : Fin 2816) : EReal :=
  proj (fun k => x (ix3 b s k)) (fun k => g (ix1 k)) (fun k => W (ix2 k f))

/-- The value `d` positions back in a sequence, zero before its start. -/
def back (A : Fin 8192 → EReal) (d : ℕ) (s : Fin 8192) : EReal :=
  if h : s.val < d then 0 else A ⟨s.val - d, by omega⟩

/-- The gated unit of position `s` of sequence `b`, column `f`. -/
def unitX (x : S4x8192x1024.Idx → EReal) (g : S1024.Idx → EReal) (Wg Wv : S1024x2816.Idx → EReal) (cw : S3x2816.Idx → EReal)
    (cb : S2816.Idx → EReal) (b : Fin 4) (s : Fin 8192) (f : Fin 2816) : EReal :=
  unit (conv (back (fun s => gateX x g Wg b s f) 2 s) (back (fun s => gateX x g Wg b s f) 1 s)
    (gateX x g Wg b s f) (cw (ix2 0 f)) (cw (ix2 1 f)) (cw (ix2 2 f)) (cb (ix1 f))) (gateX x g Wv b s f)

/-- The layer's result at position `s` of sequence `b`, coordinate `k`. -/
def outX (x : S4x8192x1024.Idx → EReal) (g : S1024.Idx → EReal) (Wg Wv : S1024x2816.Idx → EReal) (cw : S3x2816.Idx → EReal)
    (cb : S2816.Idx → EReal) (Wo : S2816x1024.Idx → EReal) (b : Fin 4) (s : Fin 8192) (k : Fin 1024) : EReal :=
  x (ix3 b s k) + ∑ f : Fin 2816, unitX x g Wg Wv cw cb b s f * Wo (ix2 f k)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

theorem blk0 (c : Dev nD) (t : Fin cfg0.N) (r k : Fin 1024) (b : Fin 4) (s : Fin 8192) (h : 1024 * t.val + r.val = 8192 * b.val + s.val) :
    iblk m c 0 t (ix2 r k) = m ((c : Thread nD τ).loc main_arg0) (ix3 b s k) := by
  blk_ext! [iblk, V, idx t]

theorem blk1 (c : Dev nD) (t : Fin cfg0.N) (k : Fin 1024) :
    iblk m c 1 t (ix2 (0 : Fin 1) k) = m ((c : Thread nD τ).loc main_arg1) (ix1 k) := by
  blk_ext! [iblk, V, idx t]

theorem blk2 (c : Dev nD) (t : Fin cfg0.N) (k : Fin 1024) (f : Fin 2816) :
    iblk m c 2 t (ix2 k f) = m ((c : Thread nD τ).loc main_arg2) (ix2 k f) := by
  blk_ext! [iblk, V, idx t]

theorem blk3 (c : Dev nD) (t : Fin cfg0.N) (k : Fin 1024) (f : Fin 2816) :
    iblk m c 3 t (ix2 k f) = m ((c : Thread nD τ).loc main_arg3) (ix2 k f) := by
  blk_ext! [iblk, V, idx t]

theorem blk4 (c : Dev nD) (t : Fin cfg0.N) (j : Fin 3) (f : Fin 2816) :
    iblk m c 4 t (ix2 j f) = m ((c : Thread nD τ).loc main_arg4) (ix2 j f) := by
  blk_ext! [iblk, V, idx t]

theorem blk5 (c : Dev nD) (t : Fin cfg0.N) (f : Fin 2816) :
    iblk m c 5 t (ix2 (0 : Fin 1) f) = m ((c : Thread nD τ).loc main_arg5) (ix1 f) := by
  blk_ext! [iblk, V, idx t]

theorem blk6 (c : Dev nD) (t : Fin cfg0.N) (f : Fin 2816) (k : Fin 1024) :
    iblk m c 6 t (ix2 f k) = m ((c : Thread nD τ).loc main_arg6) (ix2 f k) := by
  blk_ext! [iblk, V, idx t]

/-- A tile's projection is the arrays' one. -/
theorem gate_blk (c : Dev nD) (t : Fin cfg0.N) (r : Fin 1024) (f : Fin 2816) (b : Fin 4) (s : Fin 8192)
    (h : 1024 * t.val + r.val = 8192 * b.val + s.val) :
    gateT (iblk m c 0 t) (iblk m c 1 t) (iblk m c 2 t) r f
      = gateX (m ((c : Thread nD τ).loc main_arg0)) (m ((c : Thread nD τ).loc main_arg1)) (m ((c : Thread nD τ).loc main_arg2)) b s f := by
  unfold gateT gateX
  congr 1
  · funext k; exact blk0 m c t r k b s h
  · funext k; exact blk1 m c t k
  · funext k; exact blk2 m c t k f

theorem val_blk (c : Dev nD) (t : Fin cfg0.N) (r : Fin 1024) (f : Fin 2816) (b : Fin 4) (s : Fin 8192)
    (h : 1024 * t.val + r.val = 8192 * b.val + s.val) :
    gateT (iblk m c 0 t) (iblk m c 1 t) (iblk m c 3 t) r f
      = gateX (m ((c : Thread nD τ).loc main_arg0)) (m ((c : Thread nD τ).loc main_arg1)) (m ((c : Thread nD τ).loc main_arg3)) b s f := by
  unfold gateT gateX
  congr 1
  · funext k; exact blk0 m c t r k b s h
  · funext k; exact blk1 m c t k
  · funext k; exact blk3 m c t k f

/-- Every point leaves the last rows of its own projection. -/
theorem carry (c : Dev nD) (t : Fin cfg0.N) :
    (outsAt0 m c t.val t.isLt).2 = keepT (iblk m c 0 t) (iblk m c 1 t) (iblk m c 2 t) := by
  by_cases h : t.val % 8 = 0
  · refine (congrArg Prod.snd (outsAt0_A m c t h)).trans ?_
    dsimp only
    apply soutA
  · refine (congrArg Prod.snd (outsAt0_B m c t h)).trans ?_
    dsimp only
    apply soutB

/-- The rows above row `r` of a tile are the positions before it in its sequence. -/
theorem above_blk (c : Dev nD) (t : Fin cfg0.N) (C : S8x2816.Idx → EReal)
    (hA : t.val % 8 = 0 → C = zeroK)
    (hB : ∀ h : ¬t.val % 8 = 0, C = (outsAt0 m c (t.val - 1) (Nat.lt_of_le_of_lt (Nat.sub_le _ _) t.isLt)).2)
    (d : ℕ) (hd : d ≤ 2) (r : Fin 1024) (f : Fin 2816) (b : Fin 4) (s : Fin 8192) (h : 1024 * t.val + r.val = 8192 * b.val + s.val) :
    above (fun r => gateT (iblk m c 0 t) (iblk m c 1 t) (iblk m c 2 t) r f) (fun r => C (ix2 r f)) d r
      = back (fun s => gateX (m ((c : Thread nD τ).loc main_arg0)) (m ((c : Thread nD τ).loc main_arg1)) (m ((c : Thread nD τ).loc main_arg2)) b s f) d s := by
  have hs := s.isLt
  have hr := r.isLt
  unfold above back
  by_cases hlt : r.val < d
  · rw [dif_pos hlt]
    by_cases h0 : t.val % 8 = 0
    · rw [hA h0, dif_pos (by omega)]
      rfl
    · have e : C = keepT (iblk m c 0 ⟨t.val - 1, by omega⟩) (iblk m c 1 ⟨t.val - 1, by omega⟩) (iblk m c 2 ⟨t.val - 1, by omega⟩) :=
        (hB h0).trans (carry m c ⟨t.val - 1, by omega⟩)
      rw [e, dif_neg (by omega)]
      refine gate_blk m c ⟨t.val - 1, by omega⟩ _ f b ⟨s.val - d, by omega⟩ ?_
      show 1024 * (t.val - 1) + (1016 + (8 - d + r.val) % 8) = 8192 * b.val + (s.val - d)
      omega
  · rw [dif_neg hlt, dif_neg (by omega)]
    refine gate_blk m c t _ f b ⟨s.val - d, by omega⟩ ?_
    show 1024 * t.val + (r.val - d) = 8192 * b.val + (s.val - d)
    omega

/-- The block of point `t`, as the layer's result. -/
theorem out_blk (c : Dev nD) (t : Fin cfg0.N) (C : S8x2816.Idx → EReal)
    (hA : t.val % 8 = 0 → C = zeroK)
    (hB : ∀ h : ¬t.val % 8 = 0, C = (outsAt0 m c (t.val - 1) (Nat.lt_of_le_of_lt (Nat.sub_le _ _) t.isLt)).2)
    (r k : Fin 1024) (b : Fin 4) (s : Fin 8192) (h : 1024 * t.val + r.val = 8192 * b.val + s.val) :
    outT (iblk m c 0 t) (iblk m c 1 t) (iblk m c 2 t) (iblk m c 3 t) (iblk m c 4 t) (iblk m c 5 t) (iblk m c 6 t) C (ix2 r k)
      = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b s k := by
  unfold outT outX
  refine congrArg₂ (· + ·) (blk0 m c t r k b s h) (Finset.sum_congr rfl fun f _ => ?_)
  refine congrArg₂ (· * ·) ?_ (blk6 m c t f k)
  show unitT _ _ _ _ _ _ _ r f = _
  unfold unitT unitX
  rw [above_blk m c t C hA hB 2 (by omega) r f b s h, above_blk m c t C hA hB 1 (by omega) r f b s h,
    gate_blk m c t r f b s h, val_blk m c t r f b s h]
  congr 1
  unfold conv
  exact congrArg₂ (· + ·) (congrArg₂ (· + ·) (congrArg₂ (· + ·) (congrArg _ (blk4 m c t 0 f)) (congrArg _ (blk4 m c t 1 f)))
    (congrArg _ (blk4 m c t 2 f))) (blk5 m c t f)

/-- What the kernel's result array holds. -/
theorem final (c : Dev nD) (i : S32768x1024.Idx) :
    (dats m 0 c).arrAt 7 cfg0.N i
      = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨(i 0).val / 8192, by have h : (i 0).val < 32768 := (i 0).isLt; omega⟩
          ⟨(i 0).val % 8192, Nat.mod_lt _ (by decide)⟩ (i 1) := by
  refine (dats m 0 c).arrAt_forall_of_covers 7 (fun i v => v = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨(i 0).val / 8192, by have h : (i 0).val < 32768 := (i 0).isLt; omega⟩
          ⟨(i 0).val % 8192, Nat.mod_lt _ (by decide)⟩ (i 1)) (by decide +kernel) (fun t hf y => ?_) i
  have hi : win0_7.index t 0 = t.val := congrFun (idx t).2.2.2.2.2.2.2 0
  have e1 : (((cfg0.win 7).blk t).view.emb y 1).val = (y 1).val := by
    blk_simp [idx t]
  have hy : (y 0).val < 1024 := (y 0).isLt
  have key : ∀ (b : Fin 4) (s : Fin 8192) (k : Fin 1024), 1024 * t.val + (y 0).val = 8192 * b.val + s.val → k.val = (y 1).val →
      (outsAt0 m c t.val t.isLt).1 y = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b s k := by
    intro b s k hb hk
    obtain rfl : k = (⟨(y 1).val, (y 1).isLt⟩ : Fin 1024) := Fin.ext hk
    have ey : y = ix2 (⟨(y 0).val, hy⟩ : Fin 1024) (⟨(y 1).val, (y 1).isLt⟩ : Fin 1024) := eq_ix2 y
    by_cases h0 : t.val % 8 = 0
    · refine (congrFun (congrArg Prod.fst (outsAt0_A m c t h0)) y).trans ?_
      dsimp only
      rw [outA]
      exact (congrArg _ ey).trans (out_blk m c t zeroK (fun _ => rfl) (fun h => absurd h0 h) _ _ b s hb)
    · refine (congrFun (congrArg Prod.fst (outsAt0_B m c t h0)) y).trans ?_
      dsimp only
      rw [outB]
      exact (congrArg _ ey).trans (out_blk m c t _ (fun h => absurd h h0) (fun _ => rfl) _ _ b s hb)
  blk_simp
  rw [after0_7]
  refine key _ _ _ ?_ e1
  show _ = 8192 * ((win0_7.index t 0 * 1024 + (y 0).val) / 8192) + (win0_7.index t 0 * 1024 + (y 0).val) % 8192
  rw [hi]
  omega

end Cert.Ffn

end

end
-- ==== Proof.Ffn.Ref.lean ====
/-
  The feed-forward reference's result, as the same function of the arguments.
-/
module

public import proofs.«01_k».proof.Proof.Ffn.Value
public import proofs.«01_k».proof.Proof.Gen.Reference2Ideal.Run

@[expose] public section

noncomputable section

open Idealize.ShloMosaic Idealize.ShloMosaic.TcCoe Idealize.SL.Sem

namespace Cert.FfnRef

open Cert.Reference2Ideal Cert.Reference2Ideal.Gen

/-- The normalised input. -/
def hR (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- A projection of it. -/
def pR (h : FVec Ideal S4x8192x1024 .f32) (W : FVec Ideal S1024x2816 .f32) : FVec Ideal S4x8192x2816 .f32 :=
  Host.dotGeneral (φ₁ := .f32) (φ₂ := .f32) dot_S4x8192x1024_S1024x2816_S4x8192x2816_2_0_01_1_n_n none h W

/-- A projection padded in front. -/
def padR (A : FVec Ideal S4x8192x2816 .f32) : FVec Ideal S4x8194x2816 .f32 :=
  pad S4x8194x2816 ![0, 2, 0] ![0, 0, 0] ![0, 0, 0] A (sitofp .f32 (constantI S_ 32 0#32)) pads_S4x8192x2816_S4x8194x2816_000_200_000 h_S_

/-- The filtered gate. -/
def zR (A : FVec Ideal S4x8192x2816 .f32) (cw : FVec Ideal S3x2816 .f32) (cb : FVec Ideal S2816 .f32) : FVec Ideal S4x8192x2816 .f32 :=
  addf (addf (addf (mulf (extractStridedSlice S4x8192x2816 ![0, 0, 0] (padR A) slices_S4x8194x2816_S4x8192x2816_0_0_0) (broadcastInDim S4x8192x2816 ![0, 1, 2] bcast_S1x1x2816_S4x8192x2816_0_1_2 (broadcastInDim S1x1x2816 ![2] bcast_S2816_S1x1x2816_2 (shapeCast _ (extractStridedSlice S1x2816 ![0, 0] cw slices_S3x2816_S1x2816_0_0) shapeCasts_S1x2816_S2816))))
    (mulf (extractStridedSlice S4x8192x2816 ![0, 1, 0] (padR A) slices_S4x8194x2816_S4x8192x2816_0_1_0) (broadcastInDim S4x8192x2816 ![0, 1, 2] bcast_S1x1x2816_S4x8192x2816_0_1_2 (broadcastInDim S1x1x2816 ![2] bcast_S2816_S1x1x2816_2 (shapeCast _ (extractStridedSlice S1x2816 ![1, 0] cw slices_S3x2816_S1x2816_1_0) shapeCasts_S1x2816_S2816)))))
    (mulf (extractStridedSlice S4x8192x2816 ![0, 2, 0] (padR A) slices_S4x8194x2816_S4x8192x2816_0_2_0) (broadcastInDim S4x8192x2816 ![0, 1, 2] bcast_S1x1x2816_S4x8192x2816_0_1_2 (broadcastInDim S1x1x2816 ![2] bcast_S2816_S1x1x2816_2 (shapeCast _ (extractStridedSlice S1x2816 ![2, 0] cw slices_S3x2816_S1x2816_2_0) shapeCasts_S1x2816_S2816)))))
    (broadcastInDim S4x8192x2816 ![0, 1, 2] bcast_S1x1x2816_S4x8192x2816_0_1_2 (broadcastInDim S1x1x2816 ![2] bcast_S2816_S1x1x2816_2 cb))

/-- The gated units. -/
def uR (Z V : FVec Ideal S4x8192x2816 .f32) : FVec Ideal S4x8192x2816 .f32 :=
  mulf (mulf Z (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf Z))))) V

/-- The result, its leading axes joined. -/
def oR (x : FVec Ideal S4x8192x1024 .f32) (U : FVec Ideal S4x8192x2816 .f32) (Wo : FVec Ideal S2816x1024 .f32) : FVec Ideal S32768x1024 .f32 :=
  shapeCast _ (addf x (Host.dotGeneral (φ₁ := .f32) (φ₂ := .f32) dot_S4x8192x2816_S2816x1024_S4x8192x1024_2_0_01_1_n_n none U Wo)) shapeCasts_S4x8192x1024_S32768x1024

variable (m : (ℓ : Loc nD τ sig) → Buf (Elt Ideal) ℓ)

theorem res_eq (c : Dev nD) : Value.res_main_v43 m c
    = oR (m ((c.tc : Thread nD τ).loc main_arg0))
        (uR (zR (pR (hR (m ((c.tc : Thread nD τ).loc main_arg0)) (m ((c.tc : Thread nD τ).loc main_arg1))) (m ((c.tc : Thread nD τ).loc main_arg2)))
          (m ((c.tc : Thread nD τ).loc main_arg4)) (m ((c.tc : Thread nD τ).loc main_arg5)))
          (pR (hR (m ((c.tc : Thread nD τ).loc main_arg0)) (m ((c.tc : Thread nD τ).loc main_arg1))) (m ((c.tc : Thread nD τ).loc main_arg3))))
        (m ((c.tc : Thread nD τ).loc main_arg6)) := rfl

theorem hR_apply (x : FVec Ideal S4x8192x1024 .f32) (g : FVec Ideal S1024 .f32) (b : Fin 4) (s : Fin 8192) (k : Fin 1024) :
    hR x g (ix3 b s k) = Ffn.rms (fun k => x (ix3 b s k)) (fun k => g (ix1 k)) k := by
  unfold Ffn.rms
  pointwise [hR]

theorem pR_sum (H : FVec Ideal S4x8192x1024 .f32) (W : FVec Ideal S1024x2816 .f32) (b : Fin 4) (s : Fin 8192) (f : Fin 2816) :
    pR H W (ix3 b s f) = ∑ k : Fin 1024, H (ix3 b s k) * W (ix2 k f) := by
  pointwise [pR]

theorem pR_apply (x : FVec Ideal S4x8192x1024 .f32) (g : FVec Ideal S1024 .f32) (W : FVec Ideal S1024x2816 .f32) (b : Fin 4) (s : Fin 8192) (f : Fin 2816) :
    pR (hR x g) W (ix3 b s f) = Ffn.gateX x g W b s f := by
  unfold Ffn.gateX Ffn.proj
  exact (pR_sum (hR x g) W b s f).trans (Finset.sum_congr rfl fun k _ => congrArg (· * W (ix2 k f)) (hR_apply x g b s k))

theorem sitofp_zero : FloatOps.sitofp (F := Ideal) .f32 (0#32 : BitVec 32) = (0 : EReal) := by
  show (((0#32 : BitVec 32).toInt : ℝ) : EReal) = 0
  simp

theorem zR_apply (A : FVec Ideal S4x8192x2816 .f32) (cw : FVec Ideal S3x2816 .f32) (cb : FVec Ideal S2816 .f32) (b : Fin 4) (s : Fin 8192) (f : Fin 2816) :
    zR A cw cb (ix3 b s f) = Ffn.conv (Ffn.back (fun s => A (ix3 b s f)) 2 s) (Ffn.back (fun s => A (ix3 b s f)) 1 s) (A (ix3 b s f))
      (cw (ix2 0 f)) (cw (ix2 1 f)) (cw (ix2 2 f)) (cb (ix1 f)) := by
  unfold Ffn.conv Ffn.back
  pointwise [zR, padR]
  refine congrArg₂ (· + ·) (congrArg₂ (· + ·) (congrArg₂ (· + ·) (congrArg (· * cw (ix2 0 f)) ?_) (congrArg (· * cw (ix2 1 f)) ?_)) rfl) rfl
  · by_cases h2 : s.val < 2
    · rw [dif_neg (by omega), dif_pos h2]
      exact sitofp_zero
    · rw [dif_pos (by omega), dif_neg h2]
  · by_cases h2 : s.val < 1
    · rw [dif_neg (by omega), dif_pos h2]
      exact sitofp_zero
    · rw [dif_pos (by omega), dif_neg h2]
      exact congrArg (fun j => A (ix3 b j f)) (Fin.ext (by show 1 + s.val - 2 = s.val - 1; omega))

theorem uR_apply (Z V : FVec Ideal S4x8192x2816 .f32) (b : Fin 4) (s : Fin 8192) (f : Fin 2816) :
    uR Z V (ix3 b s f) = Ffn.unit (Z (ix3 b s f)) (V (ix3 b s f)) := by
  unfold Ffn.unit
  pointwise [uR]
  rfl

/-- The sequence a row of the flattened result belongs to. -/
def rowB (i : S32768x1024.Idx) : Fin 4 := ⟨(i 0).val / 8192, by have h : (i 0).val < 32768 := (i 0).isLt; omega⟩

/-- The position in its sequence of a row of the flattened result. -/
def rowS (i : S32768x1024.Idx) : Fin 8192 := ⟨(i 0).val % 8192, Nat.mod_lt _ (by decide)⟩

theorem oR_apply (x : FVec Ideal S4x8192x1024 .f32) (U : FVec Ideal S4x8192x2816 .f32) (Wo : FVec Ideal S2816x1024 .f32) (i : S32768x1024.Idx) :
    oR x U Wo i = x (ix3 (rowB i) (rowS i) (i 1)) + ∑ f : Fin 2816, U (ix3 (rowB i) (rowS i) f) * Wo (ix2 f (i 1)) := by
  unfold rowB rowS
  pointwise [oR]

/-- What the reference's result holds. -/
theorem result (c : Dev nD) (i : S32768x1024.Idx) :
    Value.res_main_v43 m c i = Ffn.outX (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (rowB i) (rowS i) (i 1) := by
  rw [res_eq, oR_apply]
  unfold Ffn.outX Ffn.unitX
  refine congrArg₂ (fun a b : EReal => a + b) rfl (Finset.sum_congr rfl fun f _ => congrArg₂ (fun a b : EReal => a * b) ?_ rfl)
  rw [uR_apply, zR_apply]
  simp only [pR_apply]

end Cert.FfnRef

end

end
-- ==== Proof.Ffn.Claim.lean ====
/- The feed-forward layer's value claim: the kernel's result over the ideal instance is the reference's. -/
module

public import proofs.«01_k».proof.Defs
public import proofs.«01_k».proof.Proof.Ffn.Value
public import proofs.«01_k».proof.Proof.Ffn.Ref
public import proofs.«01_k».proof.Proof.Gen.Kernel2Ideal.Value
public import proofs.«01_k».proof.Proof.Gen.Reference2Ideal.Run

@[expose] public section

noncomputable section

namespace Cert.Ffn

open Idealize.ShloMosaic Idealize.SL.Sem

/-- The layer's result as an array over the kernel's arguments. -/
def res (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v6) :=
  fun i : Cert.Kernel2Ideal.S32768x1024.Idx =>
    outX (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (FfnRef.rowB i) (FfnRef.rowS i) (i 1)

/-- Kernel and reference return the same array from arguments that agree, whatever the arguments. -/
theorem algebraic : Cert.algebraic_Kernel2Ideal_Reference2Ideal := by
  intro m ρ m' ρ' _ hagree
  refine ⟨fun c => res m c, ?_, ?_⟩
  · exact (θ_run Cert.Kernel2Ideal.defs _ _).mono
      (fun _ h c => ⟨(h c).1.trans (funext fun i => final m c i), (h c).2⟩) (Cert.Kernel2Ideal.Value.run_blocks m ρ)
  refine (θ_run Cert.Reference2Ideal.defs _ _).mono (fun _ h c => ⟨(h c).1.trans ?_, (h c).2⟩) (Cert.Reference2Ideal.Value.run m' ρ')
  funext i
  refine (FfnRef.result m' c i).trans ?_
  obtain ⟨h0, h1, h2, h3, h4, h5, h6⟩ := hagree c
  rw [h0, h1, h2, h3, h4, h5, h6]
  rfl

end Cert.Ffn

end

end
-- ==== Proof.Qkv.Common.lean ====
/-
  The projections to queries, keys and values on the extended reals, and the kernel's body read at an index.
-/
module

public import proofs.«01_k».proof.Proof.Gen.Kernel3Ideal.Skeleton
public import Idealize.ShloMosaic.Lib.Pointwise
public import Idealize.ShloMosaic.Lib.ValueIdx

@[expose] public section

noncomputable section

open Idealize.ShloMosaic Idealize.ShloMosaic.TcCoe Idealize.SL.Sem

namespace Cert.Qkv

open Cert.Kernel3Ideal Cert.Kernel3Ideal.Gen

/-- One entry of a row scaled to unit mean square and multiplied by the gain. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A normalised row times one column of a projection. -/
def proj (x g : Fin 1024 → EReal) (w : Fin 1024 → EReal) : EReal := ∑ k : Fin 1024, rms x g k * w k

/-- The column of entry `e` of the head that column `j` belongs to. -/
def headCol (j : Fin 1024) (e : Fin 64) : Fin 1024 := ⟨64 * (j.val / 64) + e.val, by omega⟩

/-- The column of a head's entry within it. -/
def inHead (j : Fin 1024) : Fin 64 := ⟨j.val % 64, Nat.mod_lt _ (by decide)⟩

/-- The factor that scales a head of a row to unit mean square. -/
def headRs (y : Fin 1024 → EReal) (j : Fin 1024) : EReal :=
  Ideal.rsqrt ((∑ e : Fin 64, y (headCol j e) * y (headCol j e)) * Ideal.ofBits .f32 0x3C800000#32 + Ideal.ofBits .f32 0x358637BD#32)

/-- The reciprocal root of a row's mean square over 64 entries, the row's other entries taken as zeros. -/
def halfRs (B : FVec Ideal S1024x128 .f32) : FVec Ideal S1024x1 .f32 :=
  rsqrt (addf (mulf (shapeCast S1024x1 (multiReduction .add [1] S1024 B 0x00000000#32 reduces_S1024x128_S1024 (.inl rfl) rfl) shapeCasts_S1024_S1024x1)
    (broadcast S1024x1 (Scalar.ofBits .f32 0x3C800000#32))) (broadcast S1024x1 (Scalar.ofBits .f32 0x358637BD#32)))

/-- The lower lanes' mask over all rows. -/
def lowM (lo : IVec S1x128 1) : IVec S1024x128 1 := broadcastTo S1024x128 (shapeCast S1x128 lo shapeCasts_S1x128_S1x128) broadcasts_S1x128_S1024x128

/-- The factors of a pair of heads. -/
def pair (lo : IVec S1x128 1) (B : FVec Ideal S1024x128 .f32) : FVec Ideal S1024x128 .f32 :=
  select (lowM lo)
    (broadcastTo S1024x128 (shapeCast S1024x1 (halfRs (select (lowM lo) B (broadcast S1024x128 (Scalar.ofBits .f32 0x00000000#32)))) shapeCasts_S1024x1_S1024x1) broadcasts_S1024x1_S1024x128)
    (broadcastTo S1024x128 (shapeCast S1024x1 (halfRs (select (lowM lo) (broadcast S1024x128 (Scalar.ofBits .f32 0x00000000#32)) B)) shapeCasts_S1024x1_S1024x1) broadcasts_S1024x1_S1024x128)

/-- The lanes below 64. -/
def lows : IVec S1x128 1 := cmpi .slt (iota .tc S1x128 32 [1] iota_S1x128_d1_w32) (broadcast S1x128 64#32)

theorem halfRs_apply (B : FVec Ideal S1024x128 .f32) (r : Fin 1024) :
    halfRs B (ix2 r 0) = Ideal.rsqrt ((∑ l : Fin 128, B (ix2 r l)) * Ideal.ofBits .f32 0x3C800000#32 + Ideal.ofBits .f32 0x358637BD#32) := by
  pointwise [halfRs]

theorem lowM_apply (r : Fin 1024) (l : Fin 128) : lowM lows (ix2 r l) = if l.val < 64 then 1#1 else 0#1 := by
  have e : ∀ l : Fin 128, IntOp.cmpi CmpIPredicate.slt (BitVec.ofNat 32 l.val) (64#32) = if l.val < 64 then 1#1 else 0#1 := by decide
  rw [← e]
  pointwise [lowM, lows]

theorem sum_low (f : Fin 128 → EReal) : (∑ l : Fin 128, Scalar.select (if l.val < 64 then 1#1 else 0#1) (f l) 0) = ∑ e : Fin 64, f ⟨e.val, by omega⟩ := by
  rw [Fin.sum_univ_add (a := 64) (b := 64)]
  refine (congrArg₂ (· + ·) (Finset.sum_congr rfl fun e _ => ?_) (Finset.sum_eq_zero fun e _ => ?_)).trans (add_zero _)
  · rw [if_pos (by simp)]; rfl
  · rw [if_neg (by simp)]; rfl

theorem sum_high (f : Fin 128 → EReal) : (∑ l : Fin 128, Scalar.select (if l.val < 64 then 1#1 else 0#1) 0 (f l)) = ∑ e : Fin 64, f ⟨64 + e.val, by omega⟩ := by
  rw [Fin.sum_univ_add (a := 64) (b := 64)]
  refine (congrArg₂ (· + ·) (Finset.sum_eq_zero fun e _ => ?_) (Finset.sum_congr rfl fun e _ => ?_)).trans (zero_add _)
  · rw [if_pos (by simp)]; rfl
  · rw [if_neg (by simp)]; rfl

theorem pair_apply (B : FVec Ideal S1024x128 .f32) (r : Fin 1024) (l : Fin 128) :
    pair lows B (ix2 r l) = Ideal.rsqrt ((∑ e : Fin 64, B (ix2 r ⟨64 * (l.val / 64) + e.val, by omega⟩)) * Ideal.ofBits .f32 0x3C800000#32 + Ideal.ofBits .f32 0x358637BD#32) := by
  have e1 : pair lows B (ix2 r l) = Scalar.select (lowM lows (ix2 r l))
      (halfRs (select (lowM lows) B (broadcast S1024x128 (Scalar.ofBits .f32 0x00000000#32))) (ix2 r 0))
      (halfRs (select (lowM lows) (broadcast S1024x128 (Scalar.ofBits .f32 0x00000000#32)) B) (ix2 r 0)) := by
    generalize hM : lowM lows = M
    generalize h1 : halfRs (select M B (broadcast S1024x128 (Scalar.ofBits .f32 0x00000000#32))) = H1
    generalize h2 : halfRs (select M (broadcast S1024x128 (Scalar.ofBits .f32 0x00000000#32)) B) = H2
    unfold pair
    rw [hM, h1, h2]
    pointwise
  have z : Scalar.ofBits (F := Ideal) .f32 0x00000000#32 = (0 : EReal) := Ideal.ofBits_zero_f32
  have s1 : ∀ l, select (lowM lows) B (broadcast S1024x128 (Scalar.ofBits .f32 0x00000000#32)) (ix2 r l) = Scalar.select (if l.val < 64 then 1#1 else 0#1) (B (ix2 r l)) (0 : EReal) := by
    intro l
    rw [← lowM_apply r l, ← z]
    rfl
  have s2 : ∀ l, select (lowM lows) (broadcast S1024x128 (Scalar.ofBits .f32 0x00000000#32)) B (ix2 r l) = Scalar.select (if l.val < 64 then 1#1 else 0#1) (0 : EReal) (B (ix2 r l)) := by
    intro l
    rw [← lowM_apply r l, ← z]
    rfl
  rw [e1, lowM_apply, halfRs_apply, halfRs_apply]
  simp only [s1, s2]
  rw [sum_low (fun l => B (ix2 r l)), sum_high (fun l => B (ix2 r l))]
  by_cases h : l.val < 64
  · rw [if_pos h]
    have e : l.val / 64 = 0 := by omega
    simp only [e, Nat.mul_zero, Nat.zero_add]
    rfl
  · rw [if_neg h]
    have e : l.val / 64 = 1 := by omega
    simp only [e, Nat.mul_one]
    rfl

/-- A projection of the normalised row `s` of sequence `b`, onto column `j` of the weights' columns from `o` on. -/
def projX (x : S4x8192x1024.Idx → EReal) (g : S1024.Idx → EReal) (W : S1024x3072.Idx → EReal) (o : ℕ) (ho : o + 1024 ≤ 3072) (b : Fin 4) (s : Fin 8192) (j : Fin 1024) : EReal :=
  proj (fun k => x (ix3 b s k)) (fun k => g (ix1 k)) (fun k => W (ix2 k ⟨o + j.val, by omega⟩))

/-- A projection whose heads are scaled to unit mean square, times the gain. -/
def keyX (x : S4x8192x1024.Idx → EReal) (g : S1024.Idx → EReal) (W : S1024x3072.Idx → EReal) (gh : S64.Idx → EReal) (o : ℕ) (ho : o + 1024 ≤ 3072) (b : Fin 4) (s : Fin 8192) (j : Fin 1024) : EReal :=
  projX x g W o ho b s j * headRs (fun k => projX x g W o ho b s k) j * gh (ix1 (inHead j))

/-- The sequence a row of a flattened result belongs to. -/
def rowB (i : S32768x1024.Idx) : Fin 4 := ⟨(i 0).val / 8192, by have h : (i 0).val < 32768 := (i 0).isLt; omega⟩

/-- The position in its sequence of a row of a flattened result. -/
def rowS (i : S32768x1024.Idx) : Fin 8192 := ⟨(i 0).val % 8192, Nat.mod_lt _ (by decide)⟩

theorem word_64 : Ideal.ofBits .f32 0x42800000#32 = ((64 : ℝ) : EReal) := by
  simp [Ideal.ofBits, Ideal.ieee, -EReal.coe_mul]; norm_num

theorem word_inv_64 : Ideal.ofBits .f32 0x3C800000#32 = (((64 : ℝ)⁻¹ : ℝ) : EReal) := by
  simp [Ideal.ofBits, Ideal.ieee, -EReal.coe_mul]; norm_num

/-- Dividing by 64 is multiplying by the word of 1/64. -/
theorem div_64 (x : EReal) : Ideal.div x (Ideal.ofBits .f32 0x42800000#32) = x * Ideal.ofBits .f32 0x3C800000#32 := by
  rw [word_64, word_inv_64]
  unfold Ideal.div
  rw [if_neg (by norm_cast), EReal.coe_inv]

end Cert.Qkv

end
-- ==== Proof.Qkv.Block.lean ====
/-
  What one grid point of the projections' kernel leaves in its three result blocks.
-/
module

public import proofs.«01_k».proof.Proof.Qkv.Common
public import proofs.«01_k».proof.Proof.Gen.Kernel3Ideal.Frame

@[expose] public section

noncomputable section

open Idealize.ShloMosaic Idealize.ShloMosaic.TcCoe Idealize.SL.Sem

namespace Cert.Qkv

open Cert.Kernel3Ideal Cert.Kernel3Ideal.Gen

/-- The heads' factors over a block of rows, eight pairs side by side. -/
def headS (s : FVec Ideal S1024x1024 .f32) : FVec Ideal S1024x1024 .f32 :=
  concatenate S1024x1024 1 [⟨S1024x128, pair lows (extractStridedSlice S1024x128 ![0, 0] s slices_S1024x1024_o0_0_S1024x128)⟩,
    ⟨S1024x128, pair lows (extractStridedSlice S1024x128 ![0, 128] s slices_S1024x1024_o0_128_S1024x128)⟩,
    ⟨S1024x128, pair lows (extractStridedSlice S1024x128 ![0, 256] s slices_S1024x1024_o0_256_S1024x128)⟩,
    ⟨S1024x128, pair lows (extractStridedSlice S1024x128 ![0, 384] s slices_S1024x1024_o0_384_S1024x128)⟩,
    ⟨S1024x128, pair lows (extractStridedSlice S1024x128 ![0, 512] s slices_S1024x1024_o0_512_S1024x128)⟩,
    ⟨S1024x128, pair lows (extractStridedSlice S1024x128 ![0, 640] s slices_S1024x1024_o0_640_S1024x128)⟩,
    ⟨S1024x128, pair lows (extractStridedSlice S1024x128 ![0, 768] s slices_S1024x1024_o0_768_S1024x128)⟩,
    ⟨S1024x128, pair lows (extractStridedSlice S1024x128 ![0, 896] s slices_S1024x1024_o0_896_S1024x128)⟩]
    concatenates_S1024x128_S1024x128_S1024x128_S1024x128_S1024x128_S1024x128_S1024x128_S1024x128_S1024x1024_d1

/-- Keys: a projection, each head scaled to unit mean square, times the gain. -/
def keysT (y : FVec Ideal S1024x1024 .f32) (g : Vec Ideal S1x1024 .f32) : FVec Ideal S1024x1024 .bf16 :=
  truncf .bf16 (mulf (mulf y (headS (mulf y y))) (broadcastTo S1024x1024 (shapeCast S1x1024 g shapeCasts_S1x1024_S1x1024) broadcasts_S1x1024_S1024x1024)) bitsLt_bf16_f32

/-- Queries: the same, times a constant. -/
def queriesT (y : FVec Ideal S1024x1024 .f32) (g : Vec Ideal S1x1024 .f32) : FVec Ideal S1024x1024 .bf16 :=
  truncf .bf16 (mulf (mulf (mulf y (headS (mulf y y))) (broadcastTo S1024x1024 (shapeCast S1x1024 g shapeCasts_S1x1024_S1x1024) broadcasts_S1x1024_S1024x1024))
    (broadcast S1024x1024 (Scalar.ofBits .f32 0x3E38AA3B#32))) bitsLt_bf16_f32

theorem slice_apply (s : FVec Ideal S1024x1024 .f32) (o : ℕ) (ho : o + 128 ≤ 1024) (hs : S1024x1024.Slices ![0, o] S1024x128) (r : Fin 1024) (l : Fin 128) :
    extractStridedSlice S1024x128 ![0, o] s hs (ix2 r l) = s (ix2 r ⟨o + l.val, by omega⟩) := by
  pointwise

theorem part_apply (s : FVec Ideal S1024x1024 .f32) (o : ℕ) (ho : o + 128 ≤ 1024) (hd : o % 64 = 0) (hs : S1024x1024.Slices ![0, o] S1024x128) (r : Fin 1024) (l : Fin 128)
    (j : Fin 1024) (hj : j.val = o + l.val) :
    pair lows (extractStridedSlice S1024x128 ![0, o] s hs) (ix2 r l)
      = Ideal.rsqrt ((∑ e : Fin 64, s (ix2 r (headCol j e))) * Ideal.ofBits .f32 0x3C800000#32 + Ideal.ofBits .f32 0x358637BD#32) := by
  rw [pair_apply]
  refine congrArg (fun z : EReal => Ideal.rsqrt (z * Ideal.ofBits .f32 0x3C800000#32 + Ideal.ofBits .f32 0x358637BD#32)) (Finset.sum_congr rfl fun e _ => ?_)
  rw [slice_apply s o ho hs]
  refine congrArg (fun k => s (ix2 r k)) (Fin.ext ?_)
  show o + (64 * (l.val / 64) + e.val) = 64 * (j.val / 64) + e.val
  omega

/-- The eight pairs' factors by their number. -/
def pairs (s : FVec Ideal S1024x1024 .f32) : Fin 8 → (S1024x128.Idx → EReal) := fun n => match n with
  | ⟨0, _⟩ => pair lows (extractStridedSlice S1024x128 ![0, 0] s slices_S1024x1024_o0_0_S1024x128)
  | ⟨1, _⟩ => pair lows (extractStridedSlice S1024x128 ![0, 128] s slices_S1024x1024_o0_128_S1024x128)
  | ⟨2, _⟩ => pair lows (extractStridedSlice S1024x128 ![0, 256] s slices_S1024x1024_o0_256_S1024x128)
  | ⟨3, _⟩ => pair lows (extractStridedSlice S1024x128 ![0, 384] s slices_S1024x1024_o0_384_S1024x128)
  | ⟨4, _⟩ => pair lows (extractStridedSlice S1024x128 ![0, 512] s slices_S1024x1024_o0_512_S1024x128)
  | ⟨5, _⟩ => pair lows (extractStridedSlice S1024x128 ![0, 640] s slices_S1024x1024_o0_640_S1024x128)
  | ⟨6, _⟩ => pair lows (extractStridedSlice S1024x128 ![0, 768] s slices_S1024x1024_o0_768_S1024x128)
  | ⟨7, _⟩ => pair lows (extractStridedSlice S1024x128 ![0, 896] s slices_S1024x1024_o0_896_S1024x128)

theorem pairs_apply (s : FVec Ideal S1024x1024 .f32) (n : Fin 8) (r : Fin 1024) (l : Fin 128) (j : Fin 1024) (hj : j.val = 128 * n.val + l.val) :
    pairs s n (ix2 r l) = Ideal.rsqrt ((∑ e : Fin 64, s (ix2 r (headCol j e))) * Ideal.ofBits .f32 0x3C800000#32 + Ideal.ofBits .f32 0x358637BD#32) :=
  match n, hj with
  | ⟨0, _⟩, hj => part_apply s 0 (by decide) (by decide) slices_S1024x1024_o0_0_S1024x128 r l j hj
  | ⟨1, _⟩, hj => part_apply s 128 (by decide) (by decide) slices_S1024x1024_o0_128_S1024x128 r l j hj
  | ⟨2, _⟩, hj => part_apply s 256 (by decide) (by decide) slices_S1024x1024_o0_256_S1024x128 r l j hj
  | ⟨3, _⟩, hj => part_apply s 384 (by decide) (by decide) slices_S1024x1024_o0_384_S1024x128 r l j hj
  | ⟨4, _⟩, hj => part_apply s 512 (by decide) (by decide) slices_S1024x1024_o0_512_S1024x128 r l j hj
  | ⟨5, _⟩, hj => part_apply s 640 (by decide) (by decide) slices_S1024x1024_o0_640_S1024x128 r l j hj
  | ⟨6, _⟩, hj => part_apply s 768 (by decide) (by decide) slices_S1024x1024_o0_768_S1024x128 r l j hj
  | ⟨7, _⟩, hj => part_apply s 896 (by decide) (by decide) slices_S1024x1024_o0_896_S1024x128 r l j hj

theorem headS_apply (s : FVec Ideal S1024x1024 .f32) (r j : Fin 1024) :
    headS s (ix2 r j) = Ideal.rsqrt ((∑ e : Fin 64, s (ix2 r (headCol j e))) * Ideal.ofBits .f32 0x3C800000#32 + Ideal.ofBits .f32 0x358637BD#32) := by
  refine Eq.trans ?_ (pairs_apply s ⟨j.val / 128, by omega⟩ r ⟨j.val % 128, Nat.mod_lt _ (by decide)⟩ j (by show j.val = 128 * (j.val / 128) + j.val % 128; omega))
  show concatenate S1024x1024 1 (List.ofFn fun n : Fin 8 => (⟨S1024x128, pairs s n⟩ : (s : Shape) × (s.Idx → EReal))) _ (ix2 r j) = _
  exact concatenate_ofFn_apply (t := S1024x1024) (s₁ := S1024x128) (1 : Fin 2) (pairs s) _ rfl 128 rfl (ix2 r j) ⟨j.val / 128, by omega⟩ rfl
    (ix2 r ⟨j.val % 128, Nat.mod_lt _ (by decide)⟩) rfl
    (fun b hb => match b with | ⟨0, _⟩ => rfl | ⟨1, _⟩ => absurd rfl hb)

theorem heads_apply (y : FVec Ideal S1024x1024 .f32) (r j : Fin 1024) :
    headS (mulf y y) (ix2 r j) = headRs (fun k => y (ix2 r k)) j := headS_apply (mulf y y) r j

theorem keysT_apply (y : FVec Ideal S1024x1024 .f32) (g : Vec Ideal S1x1024 .f32) (r j : Fin 1024) :
    keysT y g (ix2 r j) = y (ix2 r j) * headRs (fun k => y (ix2 r k)) j * g (ix2 0 j) := by
  rw [← heads_apply]
  unfold keysT
  generalize headS (mulf y y) = H
  pointwise

theorem queriesT_apply (y : FVec Ideal S1024x1024 .f32) (g : Vec Ideal S1x1024 .f32) (r j : Fin 1024) :
    queriesT y g (ix2 r j) = y (ix2 r j) * headRs (fun k => y (ix2 r k)) j * g (ix2 0 j) * Ideal.ofBits .f32 0x3E38AA3B#32 := by
  rw [← heads_apply]
  unfold queriesT
  generalize headS (mulf y y) = H
  pointwise

theorem pay3_apply (x : Vec Ideal S1024x1024 .f32) (g : Vec Ideal S1x1024 .f32) (r k : Fin 1024) :
    k0_pay3 x g (ix2 r k) = rms (fun k => x (ix2 r k)) (fun k => g (ix2 0 k)) k := by
  unfold rms
  pointwise [k0_pay3]

theorem mm_apply (h : FVec Ideal S1024x1024 .bf16) (w : Vec Ideal S1024x1024 .bf16) (r j : Fin 1024) :
    k0_pay30 h (k0_pay29 w) (ix2 r j) = ∑ k : Fin 1024, h (ix2 r k) * w (ix2 k j) := by
  pointwise [k0_pay30, k0_pay29]

theorem mmt_apply (h : FVec Ideal S1024x1024 .bf16) (w : Vec Ideal S1024x1024 .bf16) (u : Fin 1) (j r : Fin 1024) :
    k0_pay2 h w (ix3 u j r) = ∑ k : Fin 1024, w (ix2 j k) * h (ix2 r k) := by
  pointwise [k0_pay2]

/-- A row's projection onto a column. -/
def projT (x0 : Vec Ideal S1024x1024 .f32) (x1 : Vec Ideal S1x1024 .f32) (x2 : Vec Ideal S1024x2048 .bf16) (o : ℕ) (ho : o + 1024 ≤ 2048) (r j : Fin 1024) : EReal :=
  proj (fun k => x0 (ix2 r k)) (fun k => x1 (ix2 0 k)) (fun k => x2 (ix2 k ⟨o + j.val, by omega⟩))

theorem ld_cols (x2 : Vec Ideal S1024x2048 .bf16) (o : ℕ) (ho : o + 1024 ≤ 2048)
    (inb : ∀ a, (![0, o] : Fin 2 → ℕ) a + S1024x1024.size a ≤ S1024x2048.size a) (k j : Fin 1024) :
    View.ld x2 (Rect.unit (s := S1024x2048) ![0, o] S1024x1024.size inb) (ix2 k j) = x2 (ix2 k ⟨o + j.val, by omega⟩) := by
  show x2 _ = x2 _
  congr 1
  funext a
  match a with
  | ⟨0, _⟩ => apply Fin.ext; show 0 + 1 * k.val = k.val; omega
  | ⟨1, _⟩ => apply Fin.ext; show o + 1 * j.val = o + j.val; omega

theorem projT_eq (x0 : Vec Ideal S1024x1024 .f32) (x1 : Vec Ideal S1x1024 .f32) (x2 : Vec Ideal S1024x2048 .bf16) (o : ℕ) (ho : o + 1024 ≤ 2048)
    (inb : ∀ a, (![0, o] : Fin 2 → ℕ) a + S1024x1024.size a ≤ S1024x2048.size a) (r j : Fin 1024) :
    k0_pay30 (k0_pay3 x0 x1) (k0_pay29 (View.ld x2 (Rect.unit (s := S1024x2048) ![0, o] S1024x1024.size inb))) (ix2 r j)
      = projT x0 x1 x2 o ho r j := by
  rw [mm_apply]
  unfold projT proj
  exact Finset.sum_congr rfl fun k _ => congrArg₂ (fun a b : EReal => a * b) (pay3_apply x0 x1 r k) (ld_cols x2 o ho inb k j)

theorem zeros2 : (![0, 0] : Fin 2 → ℕ) = fun _ => 0 := by decide

theorem zeros3 : (![0, 0, 0] : Fin 3 → ℕ) = fun _ => 0 := by decide

theorem ld_sq {e : EltTy} (x : Vec Ideal S1024x1024 e) : View.ld x r0_0 = x := View.ld_unit_zero (S := S1024x1024) zeros2 _ x

theorem ld_row (x : Vec Ideal S1x1024 .f32) : View.ld x r0_1 = x := View.ld_unit_zero (S := S1x1024) zeros2 _ x

theorem out6_eq (x0 : Vec Ideal S1024x1024 .f32) (x1 : Vec Ideal S1x1024 .f32) (x2 : Vec Ideal S1024x2048 .bf16) (x3 : Vec Ideal S1024x1024 .bf16)
    (x4 x5 : Vec Ideal S1x1024 .f32) :
    out0_6 x0 x1 x2 x3 x4 x5 = queriesT (k0_pay30 (k0_pay3 x0 x1) (k0_pay29 (View.ld x2 r0_2))) x4 := by
  unfold_out out0_6
  rw [ld_sq, ld_row, ld_row]
  refine (View.canon_unit_zero zeros2 (S := S1024x1024) _ _).trans ?_
  rfl

theorem out7_eq (x0 : Vec Ideal S1024x1024 .f32) (x1 : Vec Ideal S1x1024 .f32) (x2 : Vec Ideal S1024x2048 .bf16) (x3 : Vec Ideal S1024x1024 .bf16)
    (x4 x5 : Vec Ideal S1x1024 .f32) :
    out0_7 x0 x1 x2 x3 x4 x5 = keysT (k0_pay30 (k0_pay3 x0 x1) (k0_pay29 (View.ld x2 r0_3))) x5 := by
  unfold_out out0_7
  rw [ld_sq, ld_row, ld_row]
  refine (View.canon_unit_zero zeros2 (S := S1024x1024) _ _).trans ?_
  rfl

theorem out8_eq (x0 : Vec Ideal S1024x1024 .f32) (x1 : Vec Ideal S1x1024 .f32) (x2 : Vec Ideal S1024x2048 .bf16) (x3 : Vec Ideal S1024x1024 .bf16)
    (x4 x5 : Vec Ideal S1x1024 .f32) :
    out0_8 x0 x1 x2 x3 x4 x5 = k0_pay2 (k0_pay3 x0 x1) x3 := by
  unfold_out out0_8
  rw [ld_sq, ld_row, ld_sq]
  refine (View.canon_unit_zero zeros3 (S := S1x1024x1024) _ _).trans ?_
  rfl

/-- The queries' block: the first columns' projection, its heads scaled. -/
theorem out6_apply (x0 : Vec Ideal S1024x1024 .f32) (x1 : Vec Ideal S1x1024 .f32) (x2 : Vec Ideal S1024x2048 .bf16) (x3 : Vec Ideal S1024x1024 .bf16)
    (x4 x5 : Vec Ideal S1x1024 .f32) (r j : Fin 1024) :
    out0_6 x0 x1 x2 x3 x4 x5 (ix2 r j)
      = projT x0 x1 x2 0 (by decide) r j * headRs (fun k => projT x0 x1 x2 0 (by decide) r k) j * x4 (ix2 0 j) * Ideal.ofBits .f32 0x3E38AA3B#32 := by
  have e : ∀ k, k0_pay30 (k0_pay3 x0 x1) (k0_pay29 (View.ld x2 r0_2)) (ix2 r k) = projT x0 x1 x2 0 (by decide) r k :=
    fun k => projT_eq x0 x1 x2 0 (by decide) _ r k
  rw [out6_eq, queriesT_apply]
  simp only [e]

/-- The keys' block: the next columns' projection, its heads scaled. -/
theorem out7_apply (x0 : Vec Ideal S1024x1024 .f32) (x1 : Vec Ideal S1x1024 .f32) (x2 : Vec Ideal S1024x2048 .bf16) (x3 : Vec Ideal S1024x1024 .bf16)
    (x4 x5 : Vec Ideal S1x1024 .f32) (r j : Fin 1024) :
    out0_7 x0 x1 x2 x3 x4 x5 (ix2 r j)
      = projT x0 x1 x2 1024 (by decide) r j * headRs (fun k => projT x0 x1 x2 1024 (by decide) r k) j * x5 (ix2 0 j) := by
  have e : ∀ k, k0_pay30 (k0_pay3 x0 x1) (k0_pay29 (View.ld x2 r0_3)) (ix2 r k) = projT x0 x1 x2 1024 (by decide) r k :=
    fun k => projT_eq x0 x1 x2 1024 (by decide) _ r k
  rw [out7_eq, keysT_apply]
  simp only [e]

/-- The values' block, transposed. -/
theorem out8_apply (x0 : Vec Ideal S1024x1024 .f32) (x1 : Vec Ideal S1x1024 .f32) (x2 : Vec Ideal S1024x2048 .bf16) (x3 : Vec Ideal S1024x1024 .bf16)
    (x4 x5 : Vec Ideal S1x1024 .f32) (u : Fin 1) (j r : Fin 1024) :
    out0_8 x0 x1 x2 x3 x4 x5 (ix3 u j r) = proj (fun k => x0 (ix2 r k)) (fun k => x1 (ix2 0 k)) (fun k => x3 (ix2 j k)) := by
  rw [out8_eq, mmt_apply]
  unfold proj
  refine Finset.sum_congr rfl fun k _ => (mul_comm _ _).trans ?_
  rw [pay3_apply]

end Cert.Qkv

end

end
-- ==== Proof.Qkv.Value.lean ====
/-
  The three arrays the projections' kernel writes, as functions of the arguments.
-/
module

public import proofs.«01_k».proof.Proof.Qkv.Block
public import proofs.«01_k».proof.Proof.Gen.Kernel3Ideal.Value
public import Idealize.ShloMosaic.Lib.Pipeline.ValueKit

@[expose] public section

noncomputable section

open Idealize.ShloMosaic Idealize.ShloMosaic.TcCoe Idealize.SL.Sem

namespace Cert.Qkv

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ win0_8.index t = ![t.val / 8, 0, t.val % 8] :=
  (by decide +kernel : ∀ t : Fin grid0.N, _)

theorem blk0 (c : Dev nD) (t : Fin cfg0.N) (r k : Fin 1024) (b : Fin 4) (s : Fin 8192) (h : 1024 * t.val + r.val = 8192 * b.val + s.val) :
    iblk m c 0 t (ix2 r k) = m ((c : Thread nD τ).loc main_arg0) (ix3 b s k) := by
  blk_ext! [iblk, V, idx t]

theorem blk1 (c : Dev nD) (t : Fin cfg0.N) (k : Fin 1024) :
    iblk m c 1 t (ix2 (0 : Fin 1) k) = m ((c : Thread nD τ).loc main_arg1) (ix1 k) := by
  blk_ext! [iblk, V, idx t]

theorem blk2 (c : Dev nD) (t : Fin cfg0.N) (k : Fin 1024) (j : Fin 2048) :
    iblk m c 2 t (ix2 k j) = m ((c : Thread nD τ).loc main_arg2) (ix2 k (⟨j.val, by omega⟩ : Fin 3072)) := by
  blk_ext! [iblk, V, idx t]

theorem blk3 (c : Dev nD) (t : Fin cfg0.N) (j k : Fin 1024) :
    iblk m c 3 t (ix2 j k) = m ((c : Thread nD τ).loc main_arg2) (ix2 k (⟨2048 + j.val, by omega⟩ : Fin 3072)) := by
  blk_ext! [iblk, V, idx t]

theorem blk4 (c : Dev nD) (t : Fin cfg0.N) (j : Fin 1024) :
    iblk m c 4 t (ix2 (0 : Fin 1) j) = m ((c : Thread nD τ).loc main_arg3) (ix1 (inHead j)) := by
  blk_ext! [iblk, V, idx t]
  rfl

theorem blk5 (c : Dev nD) (t : Fin cfg0.N) (j : Fin 1024) :
    iblk m c 5 t (ix2 (0 : Fin 1) j) = m ((c : Thread nD τ).loc main_arg4) (ix1 (inHead j)) := by
  blk_ext! [iblk, V, idx t]
  rfl

/-- A tile's projection is the arrays' one. -/
theorem proj_blk (c : Dev nD) (t : Fin cfg0.N) (o : ℕ) (ho : o + 1024 ≤ 2048) (r j : Fin 1024) (b : Fin 4) (s : Fin 8192)
    (h : 1024 * t.val + r.val = 8192 * b.val + s.val) :
    projT (iblk m c 0 t) (iblk m c 1 t) (iblk m c 2 t) o ho r j
      = projX (m ((c : Thread nD τ).loc main_arg0)) (m ((c : Thread nD τ).loc main_arg1)) (m ((c : Thread nD τ).loc main_arg2)) o (by omega) b s j := by
  unfold projT projX
  congr 1
  · funext k; exact blk0 m c t r k b s h
  · funext k; exact blk1 m c t k
  · funext k; exact blk2 m c t k ⟨o + j.val, by omega⟩

/-- The queries' array. -/
abbrev queryF (c : Dev nD) (i : S32768x1024.Idx) : EReal :=
  keyX (m ((c : Thread nD τ).loc main_arg0)) (m ((c : Thread nD τ).loc main_arg1)) (m ((c : Thread nD τ).loc main_arg2))
    (m ((c : Thread nD τ).loc main_arg3)) 0 (by decide) (rowB i) (rowS i) (i 1) * Ideal.ofBits .f32 0x3E38AA3B#32

/-- The keys' array. -/
abbrev keyF (c : Dev nD) (i : S32768x1024.Idx) : EReal :=
  keyX (m ((c : Thread nD τ).loc main_arg0)) (m ((c : Thread nD τ).loc main_arg1)) (m ((c : Thread nD τ).loc main_arg2))
    (m ((c : Thread nD τ).loc main_arg4)) 1024 (by decide) (rowB i) (rowS i) (i 1)

/-- The values' array, transposed. -/
abbrev valF (c : Dev nD) (i : S4x1024x8192.Idx) : EReal :=
  projX (m ((c : Thread nD τ).loc main_arg0)) (m ((c : Thread nD τ).loc main_arg1)) (m ((c : Thread nD τ).loc main_arg2))
    2048 (by decide) (i 0) (i 2) (i 1)

theorem out6_at (c : Dev nD) (t : Fin cfg0.N) (r j : Fin 1024) (b : Fin 4) (s : Fin 8192) (h : 1024 * t.val + r.val = 8192 * b.val + s.val) :
    out0_6 (iblk m c 0 t) (iblk m c 1 t) (iblk m c 2 t) (iblk m c 3 t) (iblk m c 4 t) (iblk m c 5 t) (ix2 r j)
      = keyX (m ((c : Thread nD τ).loc main_arg0)) (m ((c : Thread nD τ).loc main_arg1)) (m ((c : Thread nD τ).loc main_arg2))
          (m ((c : Thread nD τ).loc main_arg3)) 0 (by decide) b s j * Ideal.ofBits .f32 0x3E38AA3B#32 := by
  rw [out6_apply]
  simp only [proj_blk m c t 0 (by decide) _ _ b s h]
  unfold keyX
  generalize projX _ _ _ _ _ b s j * headRs _ j = A
  exact congrArg (fun z : EReal => A * z * Ideal.ofBits .f32 0x3E38AA3B#32) (blk4 m c t j)

theorem out6_blk (c : Dev nD) (t : Fin cfg0.N) (y : S1024x1024.Idx) (i : S32768x1024.Idx) (h0 : (i 0).val = 1024 * t.val + (y 0).val) (h1 : (i 1).val = (y 1).val) :
    out0_6 (iblk m c 0 t) (iblk m c 1 t) (iblk m c 2 t) (iblk m c 3 t) (iblk m c 4 t) (iblk m c 5 t) y = queryF m c i := by
  have hb : 1024 * t.val + (⟨(y 0).val, (y 0).isLt⟩ : Fin 1024).val = 8192 * (rowB i).val + (rowS i).val := by
    show 1024 * t.val + (y 0).val = 8192 * ((i 0).val / 8192) + (i 0).val % 8192
    omega
  have ej : (⟨(y 1).val, (y 1).isLt⟩ : Fin 1024) = i 1 := Fin.ext h1.symm
  have ey : y = ix2 (⟨(y 0).val, (y 0).isLt⟩ : Fin 1024) (⟨(y 1).val, (y 1).isLt⟩ : Fin 1024) := eq_ix2 y
  refine (congrArg _ ey).trans ((out6_at m c t _ _ (rowB i) (rowS i) hb).trans ?_)
  exact congrArg (fun j : Fin 1024 => keyX (m ((c : Thread nD τ).loc main_arg0)) (m ((c : Thread nD τ).loc main_arg1)) (m ((c : Thread nD τ).loc main_arg2))
          (m ((c : Thread nD τ).loc main_arg3)) 0 (by decide) (rowB i) (rowS i) j * Ideal.ofBits .f32 0x3E38AA3B#32) ej

theorem out7_at (c : Dev nD) (t : Fin cfg0.N) (r j : Fin 1024) (b : Fin 4) (s : Fin 8192) (h : 1024 * t.val + r.val = 8192 * b.val + s.val) :
    out0_7 (iblk m c 0 t) (iblk m c 1 t) (iblk m c 2 t) (iblk m c 3 t) (iblk m c 4 t) (iblk m c 5 t) (ix2 r j)
      = keyX (m ((c : Thread nD τ).loc main_arg0)) (m ((c : Thread nD τ).loc main_arg1)) (m ((c : Thread nD τ).loc main_arg2))
          (m ((c : Thread nD τ).loc main_arg4)) 1024 (by decide) b s j := by
  rw [out7_apply]
  simp only [proj_blk m c t 1024 (by decide) _ _ b s h]
  unfold keyX
  generalize projX _ _ _ _ _ b s j * headRs _ j = A
  exact congrArg (fun z : EReal => A * z) (blk5 m c t j)

theorem out7_blk (c : Dev nD) (t : Fin cfg0.N) (y : S1024x1024.Idx) (i : S32768x1024.Idx) (h0 : (i 0).val = 1024 * t.val + (y 0).val) (h1 : (i 1).val = (y 1).val) :
    out0_7 (iblk m c 0 t) (iblk m c 1 t) (iblk m c 2 t) (iblk m c 3 t) (iblk m c 4 t) (iblk m c 5 t) y = keyF m c i := by
  have hb : 1024 * t.val + (⟨(y 0).val, (y 0).isLt⟩ : Fin 1024).val = 8192 * (rowB i).val + (rowS i).val := by
    show 1024 * t.val + (y 0).val = 8192 * ((i 0).val / 8192) + (i 0).val % 8192
    omega
  have ej : (⟨(y 1).val, (y 1).isLt⟩ : Fin 1024) = i 1 := Fin.ext h1.symm
  have ey : y = ix2 (⟨(y 0).val, (y 0).isLt⟩ : Fin 1024) (⟨(y 1).val, (y 1).isLt⟩ : Fin 1024) := eq_ix2 y
  refine (congrArg _ ey).trans ((out7_at m c t _ _ (rowB i) (rowS i) hb).trans ?_)
  exact congrArg (fun j : Fin 1024 => keyX (m ((c : Thread nD τ).loc main_arg0)) (m ((c : Thread nD τ).loc main_arg1)) (m ((c : Thread nD τ).loc main_arg2))
          (m ((c : Thread nD τ).loc main_arg4)) 1024 (by decide) (rowB i) (rowS i) j) ej

theorem out8_at (c : Dev nD) (t : Fin cfg0.N) (u : Fin 1) (j r : Fin 1024) (b : Fin 4) (s : Fin 8192) (h : 1024 * t.val + r.val = 8192 * b.val + s.val) :
    out0_8 (iblk m c 0 t) (iblk m c 1 t) (iblk m c 2 t) (iblk m c 3 t) (iblk m c 4 t) (iblk m c 5 t) (ix3 u j r)
      = projX (m ((c : Thread nD τ).loc main_arg0)) (m ((c : Thread nD τ).loc main_arg1)) (m ((c : Thread nD τ).loc main_arg2))
          2048 (by decide) b s j := by
  rw [out8_apply]
  unfold projX
  congr 1
  · funext k; exact blk0 m c t r k b s h
  · funext k; exact blk1 m c t k
  · funext k; exact blk3 m c t j k

theorem out8_blk (c : Dev nD) (t : Fin cfg0.N) (y : S1x1024x1024.Idx) (i : S4x1024x8192.Idx) (h0 : (i 0).val = t.val / 8) (h1 : (i 1).val = (y 1).val)
    (h2 : (i 2).val = 1024 * (t.val % 8) + (y 2).val) :
    out0_8 (iblk m c 0 t) (iblk m c 1 t) (iblk m c 2 t) (iblk m c 3 t) (iblk m c 4 t) (iblk m c 5 t) y = valF m c i := by
  have hb : 1024 * t.val + (⟨(y 2).val, (y 2).isLt⟩ : Fin 1024).val = 8192 * (i 0).val + (i 2).val := by
    show 1024 * t.val + (y 2).val = _
    omega
  have ej : (⟨(y 1).val, (y 1).isLt⟩ : Fin 1024) = i 1 := Fin.ext h1.symm
  have ey : y = ix3 (⟨(y 0).val, (y 0).isLt⟩ : Fin 1) (⟨(y 1).val, (y 1).isLt⟩ : Fin 1024) (⟨(y 2).val, (y 2).isLt⟩ : Fin 1024) := eq_ix3 y
  refine (congrArg _ ey).trans ((out8_at m c t _ _ _ (i 0) (i 2) hb).trans ?_)
  exact congrArg (fun j : Fin 1024 => projX (m ((c : Thread nD τ).loc main_arg0)) (m ((c : Thread nD τ).loc main_arg1)) (m ((c : Thread nD τ).loc main_arg2))
          2048 (by decide) (i 0) (i 2) j) ej

theorem final6 (c : Dev nD) (i : S32768x1024.Idx) : (dats m 0 c).arrAt 6 cfg0.N i = queryF m c i := by
  refine (dats m 0 c).arrAt_forall_of_covers 6 (fun i v => v = queryF m c i) (by decide +kernel) (fun t hf y => ?_) i
  have e0 : (((cfg0.win 6).blk t).view.emb y 0).val = t.val * 1024 + (y 0).val := by
    blk_simp [idx t]
  have e1 : (((cfg0.win 6).blk t).view.emb y 1).val = (y 1).val := by
    blk_simp [idx t]
  have key : ∀ i : S32768x1024.Idx, (i 0).val = 1024 * t.val + (y 0).val → (i 1).val = (y 1).val → _ = queryF m c i := fun i h0 h1 => out6_blk m c t y i h0 h1
  blk_simp
  rw [after0_6]
  exact key _ (e0.trans (by omega)) e1

theorem final7 (c : Dev nD) (i : S32768x1024.Idx) : (dats m 0 c).arrAt 7 cfg0.N i = keyF m c i := by
  refine (dats m 0 c).arrAt_forall_of_covers 7 (fun i v => v = keyF m c i) (by decide +kernel) (fun t hf y => ?_) i
  have e0 : (((cfg0.win 7).blk t).view.emb y 0).val = t.val * 1024 + (y 0).val := by
    blk_simp [idx t]
  have e1 : (((cfg0.win 7).blk t).view.emb y 1).val = (y 1).val := by
    blk_simp [idx t]
  have key : ∀ i : S32768x1024.Idx, (i 0).val = 1024 * t.val + (y 0).val → (i 1).val = (y 1).val → _ = keyF m c i := fun i h0 h1 => out7_blk m c t y i h0 h1
  blk_simp
  rw [after0_7]
  exact key _ (e0.trans (by omega)) e1

theorem final8 (c : Dev nD) (i : S4x1024x8192.Idx) : (dats m 0 c).arrAt 8 cfg0.N i = valF m c i := by
  refine (dats m 0 c).arrAt_forall_of_covers 8 (fun i v => v = valF m c i) (by decide +kernel) (fun t hf y => ?_) i
  have e0 : (((cfg0.win 8).blk t).view.emb y 0).val = t.val / 8 := by
    blk_simp [idx t]
  have e2 : (((cfg0.win 8).blk t).view.emb y 2).val = t.val % 8 * 1024 + (y 2).val := by
    blk_simp [idx t]
  have e1 : (((cfg0.win 8).blk t).view.emb y 1).val = (y 1).val := by
    blk_simp [idx t]
  have hy : (y 0).val < 1 := (y 0).isLt
  have key : ∀ i : S4x1024x8192.Idx, (i 0).val = t.val / 8 → (i 1).val = (y 1).val → (i 2).val = 1024 * (t.val % 8) + (y 2).val → _ = valF m c i :=
    fun i h0 h1 h2 => out8_blk m c t y i h0 h1 h2
  blk_simp
  rw [after0_8]
  exact key _ e0 e1 (e2.trans (by omega))

end Cert.Qkv

end

end
-- ==== Proof.Qkv.Ref.lean ====
/-
  The projections' reference's three results, as the same functions of the arguments.
-/
module

public import proofs.«01_k».proof.Proof.Qkv.Common
public import proofs.«01_k».proof.Proof.Gen.Reference3Ideal.Run

@[expose] public section

noncomputable section

open Idealize.ShloMosaic Idealize.ShloMosaic.TcCoe Idealize.SL.Sem

namespace Cert.QkvRef

open Cert.Reference3Ideal Cert.Reference3Ideal.Gen

/-- The normalised input. -/
def hR (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The three projections side by side. -/
def pR (h : FVec Ideal S4x8192x1024 .f32) (W : FVec Ideal S1024x3072 .f32) : FVec Ideal S4x8192x3072 .f32 :=
  Host.dotGeneral (φ₁ := .f32) (φ₂ := .f32) dot_S4x8192x1024_S1024x3072_S4x8192x3072_2_0_01_1_n_n none h W

/-- One projection in heads. -/
def headsR (p : FVec Ideal S4x8192x1024 .f32) : FVec Ideal S4x8192x16x64 .f32 := shapeCast _ p shapeCasts_S4x8192x1024_S4x8192x16x64

/-- Heads scaled to unit mean square, times the gain. -/
def scaleR (y : FVec Ideal S4x8192x16x64 .f32) (g : FVec Ideal S64 .f32) : FVec Ideal S4x8192x16x64 .f32 :=
  mulf (mulf y (broadcastInDim S4x8192x16x64 ![0, 1, 2, 3] bcast_S4x8192x16x1_S4x8192x16x64_0_1_2_3 (Host.rsqrt (addf (Host.divf (broadcastInDim S4x8192x16x1 ![0, 1, 2] bcast_S4x8192x16_S4x8192x16x1_0_1_2 (Host.reduceAdd (mulf y y) (constant S_ .f32 0x00000000#32) reducesTo_S4x8192x16x64_S4x8192x16_d3 h_S_)) (broadcastInDim S4x8192x16x1 ![] bcast_S_S4x8192x16x1 (constant S_ .f32 0x42800000#32))) (broadcastInDim S4x8192x16x1 ![] bcast_S_S4x8192x16x1 (constant S_ .f32 0x358637BD#32)))))) (broadcastInDim S4x8192x16x64 ![0, 1, 2, 3] bcast_S1x1x1x64_S4x8192x16x64_0_1_2_3 (broadcastInDim S1x1x1x64 ![3] bcast_S64_S1x1x1x64_3 g))

/-- The queries, flattened. -/
def queriesR (P : FVec Ideal S4x8192x3072 .f32) (g : FVec Ideal S64 .f32) : FVec Ideal S32768x1024 .bf16 :=
  truncf .bf16 (shapeCast _ (mulf (scaleR (headsR (extractStridedSlice S4x8192x1024 ![0, 0, 0] P slices_S4x8192x3072_S4x8192x1024_0_0_0)) g)
    (broadcastInDim S4x8192x16x64 ![] bcast_S_S4x8192x16x64 (constant S_ .f32 0x3E38AA3B#32))) shapeCasts_S4x8192x16x64_S32768x1024) bitsLt_bf16_f32

/-- The keys, flattened. -/
def keysR (P : FVec Ideal S4x8192x3072 .f32) (g : FVec Ideal S64 .f32) : FVec Ideal S32768x1024 .bf16 :=
  truncf .bf16 (shapeCast _ (scaleR (headsR (extractStridedSlice S4x8192x1024 ![0, 0, 1024] P slices_S4x8192x3072_S4x8192x1024_0_0_1024)) g) shapeCasts_S4x8192x16x64_S32768x1024) bitsLt_bf16_f32

/-- The values, transposed. -/
def valuesR (P : FVec Ideal S4x8192x3072 .f32) : FVec Ideal S4x1024x8192 .bf16 :=
  truncf .bf16 (transpose S4x1024x8192 [0, 2, 1] (extractStridedSlice S4x8192x1024 ![0, 0, 2048] P slices_S4x8192x3072_S4x8192x1024_0_0_2048) transposes_S4x8192x1024_S4x1024x8192_0_2_1) bitsLt_bf16_f32

theorem hR_apply (x : FVec Ideal S4x8192x1024 .f32) (g : FVec Ideal S1024 .f32) (b : Fin 4) (s : Fin 8192) (k : Fin 1024) :
    hR x g (ix3 b s k) = Qkv.rms (fun k => x (ix3 b s k)) (fun k => g (ix1 k)) k := by
  unfold Qkv.rms
  pointwise [hR]

theorem pR_sum (H : FVec Ideal S4x8192x1024 .f32) (W : FVec Ideal S1024x3072 .f32) (b : Fin 4) (s : Fin 8192) (f : Fin 3072) :
    pR H W (ix3 b s f) = ∑ k : Fin 1024, H (ix3 b s k) * W (ix2 k f) := by
  pointwise [pR]

theorem pR_apply (x : FVec Ideal S4x8192x1024 .f32) (g : FVec Ideal S1024 .f32) (W : FVec Ideal S1024x3072 .f32) (o : ℕ) (ho : o + 1024 ≤ 3072)
    (b : Fin 4) (s : Fin 8192) (j : Fin 1024) :
    pR (hR x g) W (ix3 b s ⟨o + j.val, by omega⟩) = Qkv.projX x g W o ho b s j := by
  unfold Qkv.projX Qkv.proj
  exact (pR_sum (hR x g) W b s _).trans (Finset.sum_congr rfl fun k _ => congrArg (· * W (ix2 k ⟨o + j.val, by omega⟩)) (hR_apply x g b s k))

theorem headsR_apply (p : FVec Ideal S4x8192x1024 .f32) (b : Fin 4) (s : Fin 8192) (h : Fin 16) (e : Fin 64) :
    headsR p (ix4 b s h e) = p (ix3 b s ⟨64 * h.val + e.val, by omega⟩) := by
  pointwise [headsR]
  exact congrArg (fun k => p (ix3 b s k)) (Fin.ext (by show h.val * 64 + e.val = 64 * h.val + e.val; omega))

theorem scaleR_apply (y : FVec Ideal S4x8192x16x64 .f32) (g : FVec Ideal S64 .f32) (b : Fin 4) (s : Fin 8192) (h : Fin 16) (e : Fin 64) :
    scaleR y g (ix4 b s h e) = y (ix4 b s h e)
      * Ideal.rsqrt (Ideal.div (∑ e : Fin 64, y (ix4 b s h e) * y (ix4 b s h e)) (Ideal.ofBits .f32 0x42800000#32) + Ideal.ofBits .f32 0x358637BD#32) * g (ix1 e) := by
  pointwise [scaleR]

/-- The head of a column. -/
def headOf (j : Fin 1024) : Fin 16 := ⟨j.val / 64, by omega⟩

/-- A projection's scaled heads at a column. -/
theorem scaled (p : FVec Ideal S4x8192x1024 .f32) (g : FVec Ideal S64 .f32) (b : Fin 4) (s : Fin 8192) (j : Fin 1024) :
    scaleR (headsR p) g (ix4 b s (headOf j) (Qkv.inHead j))
      = p (ix3 b s j) * Qkv.headRs (fun k => p (ix3 b s k)) j * g (ix1 (Qkv.inHead j)) := by
  have e : headsR p (ix4 b s (headOf j) (Qkv.inHead j)) = p (ix3 b s j) := by
    rw [headsR_apply]
    refine congrArg (fun k => p (ix3 b s k)) (Fin.ext ?_)
    show 64 * (j.val / 64) + j.val % 64 = j.val
    omega
  rw [scaleR_apply, Qkv.div_64, e]
  simp only [headsR_apply]
  rfl

theorem queries_flat (P : FVec Ideal S4x8192x3072 .f32) (g : FVec Ideal S64 .f32) (i : S32768x1024.Idx) :
    queriesR P g i = scaleR (headsR (extractStridedSlice S4x8192x1024 ![0, 0, 0] P slices_S4x8192x3072_S4x8192x1024_0_0_0)) g
      (ix4 (Qkv.rowB i) (Qkv.rowS i) (headOf (i 1)) (Qkv.inHead (i 1))) * Ideal.ofBits .f32 0x3E38AA3B#32 := by
  unfold queriesR headOf Qkv.inHead Qkv.rowB Qkv.rowS
  generalize scaleR (headsR (extractStridedSlice S4x8192x1024 ![0, 0, 0] P slices_S4x8192x3072_S4x8192x1024_0_0_0)) g = Z
  pointwise

theorem keys_flat (P : FVec Ideal S4x8192x3072 .f32) (g : FVec Ideal S64 .f32) (i : S32768x1024.Idx) :
    keysR P g i = scaleR (headsR (extractStridedSlice S4x8192x1024 ![0, 0, 1024] P slices_S4x8192x3072_S4x8192x1024_0_0_1024)) g
      (ix4 (Qkv.rowB i) (Qkv.rowS i) (headOf (i 1)) (Qkv.inHead (i 1))) := by
  unfold keysR headOf Qkv.inHead Qkv.rowB Qkv.rowS
  generalize scaleR (headsR (extractStridedSlice S4x8192x1024 ![0, 0, 1024] P slices_S4x8192x3072_S4x8192x1024_0_0_1024)) g = Z
  pointwise

theorem slice_apply (P : FVec Ideal S4x8192x3072 .f32) (o : ℕ) (ho : o + 1024 ≤ 3072) (hs : S4x8192x3072.Slices ![0, 0, o] S4x8192x1024)
    (b : Fin 4) (s : Fin 8192) (j : Fin 1024) :
    extractStridedSlice S4x8192x1024 ![0, 0, o] P hs (ix3 b s j) = P (ix3 b s ⟨o + j.val, by omega⟩) := by
  pointwise

theorem values_flat (P : FVec Ideal S4x8192x3072 .f32) (i : S4x1024x8192.Idx) :
    valuesR P i = extractStridedSlice S4x8192x1024 ![0, 0, 2048] P slices_S4x8192x3072_S4x8192x1024_0_0_2048 (ix3 (i 0) (i 2) (i 1)) := by
  unfold valuesR
  generalize extractStridedSlice S4x8192x1024 ![0, 0, 2048] P slices_S4x8192x3072_S4x8192x1024_0_0_2048 = Z
  pointwise

variable (x : FVec Ideal S4x8192x1024 .f32) (g : FVec Ideal S1024 .f32) (W : FVec Ideal S1024x3072 .f32) (gh : FVec Ideal S64 .f32)

theorem queries_val (i : S32768x1024.Idx) :
    queriesR (pR (hR x g) W) gh i = Qkv.keyX x g W gh 0 (by decide) (Qkv.rowB i) (Qkv.rowS i) (i 1) * Ideal.ofBits .f32 0x3E38AA3B#32 := by
  have e : ∀ j, extractStridedSlice S4x8192x1024 ![0, 0, 0] (pR (hR x g) W) slices_S4x8192x3072_S4x8192x1024_0_0_0 (ix3 (Qkv.rowB i) (Qkv.rowS i) j)
      = Qkv.projX x g W 0 (by decide) (Qkv.rowB i) (Qkv.rowS i) j := fun j => (slice_apply _ 0 (by decide) _ _ _ j).trans (pR_apply x g W 0 (by decide) _ _ j)
  refine (queries_flat _ _ i).trans (congrArg (fun z : EReal => z * Ideal.ofBits .f32 0x3E38AA3B#32) ((scaled _ gh _ _ (i 1)).trans ?_))
  exact congrArg₂ (fun a b : EReal => a * b * gh (ix1 (Qkv.inHead (i 1)))) (e (i 1)) (congrArg (fun f => Qkv.headRs f (i 1)) (funext e))

theorem keys_val (i : S32768x1024.Idx) :
    keysR (pR (hR x g) W) gh i = Qkv.keyX x g W gh 1024 (by decide) (Qkv.rowB i) (Qkv.rowS i) (i 1) := by
  have e : ∀ j, extractStridedSlice S4x8192x1024 ![0, 0, 1024] (pR (hR x g) W) slices_S4x8192x3072_S4x8192x1024_0_0_1024 (ix3 (Qkv.rowB i) (Qkv.rowS i) j)
      = Qkv.projX x g W 1024 (by decide) (Qkv.rowB i) (Qkv.rowS i) j := fun j => (slice_apply _ 1024 (by decide) _ _ _ j).trans (pR_apply x g W 1024 (by decide) _ _ j)
  refine (keys_flat _ _ i).trans ((scaled _ gh _ _ (i 1)).trans ?_)
  exact congrArg₂ (fun a b : EReal => a * b * gh (ix1 (Qkv.inHead (i 1)))) (e (i 1)) (congrArg (fun f => Qkv.headRs f (i 1)) (funext e))

theorem values_val (i : S4x1024x8192.Idx) :
    valuesR (pR (hR x g) W) i = Qkv.projX x g W 2048 (by decide) (i 0) (i 2) (i 1) :=
  (values_flat _ i).trans ((slice_apply _ 2048 (by decide) _ _ _ (i 1)).trans (pR_apply x g W 2048 (by decide) _ _ (i 1)))

end Cert.QkvRef

end

end
-- ==== Proof.Qkv.Claim.lean ====
/- The projections' value claim: the kernel's three results over the ideal instance are the reference's. -/
module

public import proofs.«01_k».proof.Defs
public import proofs.«01_k».proof.Proof.Qkv.Value
public import proofs.«01_k».proof.Proof.Qkv.Ref
public import proofs.«01_k».proof.Proof.Gen.Kernel3Ideal.Value
public import proofs.«01_k».proof.Proof.Gen.Reference3Ideal.Run

@[expose] public section

noncomputable section

namespace Cert.Qkv

open Idealize.ShloMosaic Idealize.SL.Sem

/-- Kernel and reference return the same three arrays from arguments that agree, whatever the arguments. -/
theorem algebraic : Cert.algebraic_Kernel3Ideal_Reference3Ideal := by
  intro m ρ m' ρ' _ hagree
  refine ⟨fun c i => queryF m c i, fun c i => keyF m c i, fun c i => valF m c i, ?_, ?_⟩
  · exact (θ_run Cert.Kernel3Ideal.defs _ _).mono
      (fun _ h c => ⟨(h c).1.trans (funext fun i => final6 m c i), (h c).2.1.trans (funext fun i => final7 m c i),
        (h c).2.2.1.trans (funext fun i => final8 m c i), (h c).2.2.2⟩) (Cert.Kernel3Ideal.Value.run_blocks m ρ)
  refine (θ_run Cert.Reference3Ideal.defs _ _).mono (fun _ h c => ⟨(h c).1.trans ?_, (h c).2.1.trans ?_, (h c).2.2.1.trans ?_, (h c).2.2.2⟩)
    (Cert.Reference3Ideal.Value.run m' ρ')
  all_goals obtain ⟨h0, h1, h2, h3, h4⟩ := hagree c
  · funext i
    refine (QkvRef.queries_val _ _ _ _ i).trans ?_
    rw [h0, h1, h2, h3]
  · funext i
    refine (QkvRef.keys_val _ _ _ _ i).trans ?_
    rw [h0, h1, h2, h4]
  · funext i
    refine (QkvRef.values_val _ _ _ i).trans ?_
    rw [h0, h1, h2]

end Cert.Qkv

end

end
-- ==== Proof.Attn.Common.lean ====
/-
  Attention over a window of keys, on the extended reals, and the pieces of the kernel's body that compute its scores and
  its outputs for a block of 128 queries and a pair of heads, read at an index.
-/
module

public import proofs.«01_k».proof.Proof.Gen.Kernel4Ideal.Skeleton
public import Idealize.ShloMosaic.Lib.Pointwise
public import Idealize.ShloMosaic.Lib.ValueIdx

@[expose] public section

noncomputable section

open Idealize.ShloMosaic Idealize.ShloMosaic.TcCoe Idealize.SL.Sem

namespace Cert.Attn

open Cert.Kernel4Ideal Cert.Kernel4Ideal.Gen

/-- The largest of the scores. -/
def top {n : ℕ} (S : Fin n → EReal) : EReal := Finset.univ.fold max ⊥ S

theorem neg_inf : Ideal.ofBits .f32 0xFF800000#32 = (⊥ : EReal) := by simp [Ideal.ofBits, Ideal.ieee]

/-- The values weighted by the powers of two of their scores, over the sum of those powers. -/
def soft {n : ℕ} (S V : Fin n → EReal) : EReal :=
  (∑ k, V k * Ideal.exp2 (S k - top S)) * Ideal.div 1 (∑ k, Ideal.exp2 (S k - top S))

/-- The lanes below 64. -/
def lows : IVec S128x128 1 := cmpi .slt (iota .tc S128x128 32 [1] iota_S128x128_d1_w32) (broadcast S128x128 64#32)

/-- The rows below 64. -/
def lowR : IVec S128x128 1 := cmpi .slt (iota .tc S128x128 32 [0] iota_S128x128_d0_w32) (broadcast S128x128 64#32)

/-- The queries of the lower head over those of the upper head, each with zeros in the other head's lanes. -/
def qq (q : Vec Ideal S1x128x128 .bf16) : FVec Ideal S256x128 .bf16 :=
  concatenate S256x128 0 [⟨S128x128, select lows (shapeCast S128x128 q shapeCasts_S1x128x128_S128x128) (broadcast S128x128 (Scalar.ofBits .bf16 0x0000#16))⟩,
    ⟨S128x128, select lows (broadcast S128x128 (Scalar.ofBits .bf16 0x0000#16)) (shapeCast S128x128 q shapeCasts_S1x128x128_S128x128)⟩] concatenates_S128x128_S128x128_S256x128_d0

/-- The outputs of both heads from the weighted sums, the last rows of which are the sums of the weights. -/
def fin (O : FVec Ideal S144x256 .f32) : FVec Ideal S128x128 .bf16 :=
  let inv : FVec Ideal S1x256 .f32 := divf (broadcast S1x256 (Scalar.ofBits .f32 0x3F800000#32)) (extractStridedSlice S1x256 ![128, 0] O slices_S144x256_o128_0_S1x256)
  shapeCast S128x128 (truncf .bf16 (transpose S128x128 [1, 0] (select lowR
    (mulf (extractStridedSlice S128x128 ![0, 0] O slices_S144x256_o0_0_S128x128) (broadcastTo S128x128 (extractStridedSlice S1x128 ![0, 0] inv slices_S1x256_o0_0_S1x128) broadcasts_S1x128_S128x128))
    (mulf (extractStridedSlice S128x128 ![0, 128] O slices_S144x256_o0_128_S128x128) (broadcastTo S128x128 (extractStridedSlice S1x128 ![0, 128] inv slices_S1x256_o0_128_S1x128) broadcasts_S1x128_S128x128)))
    transposes_S128x128_p1_0_S128x128) bitsLt_bf16_f32) shapeCasts_S128x128_S128x128

theorem low_bit : ∀ l : Fin 128, IntOp.cmpi CmpIPredicate.slt (BitVec.ofNat 32 l.val) (64#32) = if l.val < 64 then 1#1 else 0#1 := by decide

theorem lows_apply (r l : Fin 128) : lows (ix2 r l) = if l.val < 64 then 1#1 else 0#1 := by
  rw [← low_bit]
  pointwise [lows]

theorem lowR_apply (r l : Fin 128) : lowR (ix2 r l) = if r.val < 64 then 1#1 else 0#1 := by
  rw [← low_bit]
  pointwise [lowR]

theorem qq_low (q : Vec Ideal S1x128x128 .bf16) (r l : Fin 128) :
    qq q (ix2 (⟨r.val, by omega⟩ : Fin 256) l) = Scalar.select (if l.val < 64 then 1#1 else 0#1) (q (ix3 (0 : Fin 1) r l)) (0 : EReal) := by
  rw [← lows_apply r l, ← Ideal.ofBits_zero_bf16]
  unfold qq
  generalize lows = M
  pointwise

theorem qq_high (q : Vec Ideal S1x128x128 .bf16) (r l : Fin 128) :
    qq q (ix2 (⟨128 + r.val, by omega⟩ : Fin 256) l) = Scalar.select (if l.val < 64 then 1#1 else 0#1) (0 : EReal) (q (ix3 (0 : Fin 1) r l)) := by
  rw [← lows_apply r l, ← Ideal.ofBits_zero_bf16]
  unfold qq
  generalize lows = M
  pointwise

/-- The column of a query in the pair's scores, by head. -/
def col (hh : Fin 2) (r : Fin 128) : Fin 256 := ⟨128 * hh.val + r.val, by omega⟩

/-- The lane of an entry of a pair's head. -/
def lane (hh : Fin 2) (e : Fin 64) : Fin 128 := ⟨64 * hh.val + e.val, by omega⟩

/-- A row of keys against a query of one head. -/
theorem qq_sum (q : Vec Ideal S1x128x128 .bf16) (f : Fin 128 → EReal) (hh : Fin 2) (r : Fin 128) :
    (∑ l : Fin 128, f l * qq q (ix2 (col hh r) l)) = ∑ e : Fin 64, f (lane hh e) * q (ix3 (0 : Fin 1) r (lane hh e)) := by
  match hh with
  | 0 =>
    have e : ∀ l, qq q (ix2 (col 0 r) l) = _ := fun l => (congrArg (fun c => qq q (ix2 c l)) (Fin.ext (by simp [col]))).trans (qq_low q r l)
    simp only [e]
    rw [Fin.sum_univ_add (a := 64) (b := 64)]
    refine (congrArg₂ (· + ·) (Finset.sum_congr rfl fun e _ => ?_) (Finset.sum_eq_zero fun e _ => ?_)).trans (add_zero _)
    · rw [if_pos (by simp)]
      have h : Fin.castAdd 64 e = lane 0 e := Fin.ext (by simp [lane])
      rw [h]; rfl
    · rw [if_neg (by simp)]; exact mul_zero _
  | 1 =>
    have e : ∀ l, qq q (ix2 (col 1 r) l) = _ := fun l => (congrArg (fun c => qq q (ix2 c l)) (Fin.ext (by simp [col]))).trans (qq_high q r l)
    simp only [e]
    rw [Fin.sum_univ_add (a := 64) (b := 64)]
    refine (congrArg₂ (· + ·) (Finset.sum_eq_zero fun e _ => ?_) (Finset.sum_congr rfl fun e _ => ?_)).trans (zero_add _)
    · rw [if_pos (by simp)]; exact mul_zero _
    · rw [if_neg (by simp)]
      have h : Fin.natAdd 64 e = lane 1 e := Fin.ext (by simp [lane, add_comm])
      rw [h]; rfl

/-- The head a lane belongs to. -/
def half (l : Fin 128) : Fin 2 := ⟨l.val / 64, by omega⟩

theorem fin_apply (O : FVec Ideal S144x256 .f32) (r l : Fin 128) :
    fin O (ix2 r l) = O (ix2 (⟨l.val, by omega⟩ : Fin 144) (col (half l) r)) * Ideal.div 1 (O (ix2 (128 : Fin 144) (col (half l) r))) := by
  have e1 : fin O (ix2 r l) = Scalar.select (lowR (ix2 l r))
      (O (ix2 (⟨l.val, by omega⟩ : Fin 144) (col 0 r)) * Ideal.div (Ideal.ofBits .f32 0x3F800000#32) (O (ix2 (128 : Fin 144) (col 0 r))))
      (O (ix2 (⟨l.val, by omega⟩ : Fin 144) (col 1 r)) * Ideal.div (Ideal.ofBits .f32 0x3F800000#32) (O (ix2 (128 : Fin 144) (col 1 r)))) := by
    unfold fin col
    generalize lowR = M
    pointwise
  rw [e1, lowR_apply, Ideal.ofBits_one_f32]
  by_cases h : l.val < 64
  · rw [if_pos h, show half l = 0 from Fin.ext (by simp [half]; omega)]; rfl
  · rw [if_neg h, show half l = 1 from Fin.ext (by simp [half]; omega)]; rfl

/-- 128 keys against a block of queries. -/
def s128 (q : Vec Ideal S1x128x128 .bf16) (k : Vec Ideal S1x128x128 .bf16) : FVec Ideal S128x256 .f32 :=
  matmul (φ₁ := .bf16) (φ₂ := .bf16) dot_S128x128_S256x128_S128x256_1_1_0_0_n_n none (shapeCast S128x128 k shapeCasts_S1x128x128_S128x128 : FVec Ideal S128x128 .bf16) (qq q) (constant S128x256 .f32 0x00000000#32)

theorem s128_apply (q : Vec Ideal S1x128x128 .bf16) (k : Vec Ideal S1x128x128 .bf16) (j : Fin 128) (hh : Fin 2) (r : Fin 128) :
    s128 q k (ix2 j (col hh r)) = ∑ e : Fin 64, k (ix3 (0 : Fin 1) j (lane hh e)) * q (ix3 (0 : Fin 1) r (lane hh e)) := by
  have h : s128 q k (ix2 j (col hh r)) = ∑ l : Fin 128, k (ix3 (0 : Fin 1) j l) * qq q (ix2 (col hh r) l) := by
    unfold s128
    generalize qq q = Q
    pointwise
  exact h.trans (qq_sum q _ hh r)

/-- Values and rows of ones weighted, over 128 keys. -/
def w128 (v : Vec Ideal S1x128x128 .bf16) (e : FVec Ideal S128x256 .bf16) : FVec Ideal S144x256 .f32 :=
  matmul (φ₁ := .bf16) (φ₂ := .bf16) dot_S144x128_S128x256_S144x256_1_0_0_1_n_n none
    (concatenate S144x128 0 [⟨S128x128, (shapeCast S128x128 v shapeCasts_S1x128x128_S128x128 : FVec Ideal S128x128 .bf16)⟩, ⟨S16x128, (broadcast S16x128 (Scalar.ofBits .bf16 0x3F80#16) : FVec Ideal S16x128 .bf16)⟩] concatenates_S128x128_S16x128_S144x128_d0 : FVec Ideal S144x128 .bf16)
    e (constant S144x256 .f32 0x00000000#32)

theorem w128_val (v : Vec Ideal S1x128x128 .bf16) (e : FVec Ideal S128x256 .bf16) (l : Fin 128) (c : Fin 256) :
    w128 v e (ix2 (⟨l.val, by omega⟩ : Fin 144) c) = ∑ k : Fin 128, v (ix3 (0 : Fin 1) l k) * e (ix2 k c) := by
  pointwise [w128]

theorem w128_one (v : Vec Ideal S1x128x128 .bf16) (e : FVec Ideal S128x256 .bf16) (c : Fin 256) :
    w128 v e (ix2 (128 : Fin 144) c) = ∑ k : Fin 128, e (ix2 k c) := by
  have h : w128 v e (ix2 (128 : Fin 144) c) = ∑ k : Fin 128, Ideal.ofBits .bf16 0x3F80#16 * e (ix2 k c) := by
    pointwise [w128]
  rw [h, Ideal.ofBits_one_bf16]
  exact Finset.sum_congr rfl fun k _ => one_mul _

/-- 256 keys against a block of queries. -/
def s256 (q : Vec Ideal S1x128x128 .bf16) (k : Vec Ideal S1x256x128 .bf16) : FVec Ideal S256x256 .f32 :=
  matmul (φ₁ := .bf16) (φ₂ := .bf16) dot_S256x128_S256x128_S256x256_1_1_0_0_n_n none (shapeCast S256x128 k shapeCasts_S1x256x128_S256x128 : FVec Ideal S256x128 .bf16) (qq q) (constant S256x256 .f32 0x00000000#32)

theorem s256_apply (q : Vec Ideal S1x128x128 .bf16) (k : Vec Ideal S1x256x128 .bf16) (j : Fin 256) (hh : Fin 2) (r : Fin 128) :
    s256 q k (ix2 j (col hh r)) = ∑ e : Fin 64, k (ix3 (0 : Fin 1) j (lane hh e)) * q (ix3 (0 : Fin 1) r (lane hh e)) := by
  have h : s256 q k (ix2 j (col hh r)) = ∑ l : Fin 128, k (ix3 (0 : Fin 1) j l) * qq q (ix2 (col hh r) l) := by
    unfold s256
    generalize qq q = Q
    pointwise
  exact h.trans (qq_sum q _ hh r)

/-- Values and rows of ones weighted, over 256 keys. -/
def w256 (v : Vec Ideal S1x128x256 .bf16) (e : FVec Ideal S256x256 .bf16) : FVec Ideal S144x256 .f32 :=
  matmul (φ₁ := .bf16) (φ₂ := .bf16) dot_S144x256_S256x256_S144x256_1_0_0_1_n_n none
    (concatenate S144x256 0 [⟨S128x256, (shapeCast S128x256 v shapeCasts_S1x128x256_S128x256 : FVec Ideal S128x256 .bf16)⟩, ⟨S16x256, (broadcast S16x256 (Scalar.ofBits .bf16 0x3F80#16) : FVec Ideal S16x256 .bf16)⟩] concatenates_S128x256_S16x256_S144x256_d0 : FVec Ideal S144x256 .bf16)
    e (constant S144x256 .f32 0x00000000#32)

theorem w256_val (v : Vec Ideal S1x128x256 .bf16) (e : FVec Ideal S256x256 .bf16) (l : Fin 128) (c : Fin 256) :
    w256 v e (ix2 (⟨l.val, by omega⟩ : Fin 144) c) = ∑ k : Fin 256, v (ix3 (0 : Fin 1) l k) * e (ix2 k c) := by
  pointwise [w256]

theorem w256_one (v : Vec Ideal S1x128x256 .bf16) (e : FVec Ideal S256x256 .bf16) (c : Fin 256) :
    w256 v e (ix2 (128 : Fin 144) c) = ∑ k : Fin 256, e (ix2 k c) := by
  have h : w256 v e (ix2 (128 : Fin 144) c) = ∑ k : Fin 256, Ideal.ofBits .bf16 0x3F80#16 * e (ix2 k c) := by
    pointwise [w256]
  rw [h, Ideal.ofBits_one_bf16]
  exact Finset.sum_congr rfl fun k _ => one_mul _

/-- 384 keys against a block of queries. -/
def s384 (q : Vec Ideal S1x128x128 .bf16) (k : Vec Ideal S1x384x128 .bf16) : FVec Ideal S384x256 .f32 :=
  matmul (φ₁ := .bf16) (φ₂ := .bf16) dot_S384x128_S256x128_S384x256_1_1_0_0_n_n none (shapeCast S384x128 k shapeCasts_S1x384x128_S384x128 : FVec Ideal S384x128 .bf16) (qq q) (constant S384x256 .f32 0x00000000#32)

theorem s384_apply (q : Vec Ideal S1x128x128 .bf16) (k : Vec Ideal S1x384x128 .bf16) (j : Fin 384) (hh : Fin 2) (r : Fin 128) :
    s384 q k (ix2 j (col hh r)) = ∑ e : Fin 64, k (ix3 (0 : Fin 1) j (lane hh e)) * q (ix3 (0 : Fin 1) r (lane hh e)) := by
  have h : s384 q k (ix2 j (col hh r)) = ∑ l : Fin 128, k (ix3 (0 : Fin 1) j l) * qq q (ix2 (col hh r) l) := by
    unfold s384
    generalize qq q = Q
    pointwise
  exact h.trans (qq_sum q _ hh r)

/-- Values and rows of ones weighted, over 384 keys. -/
def w384 (v : Vec Ideal S1x128x384 .bf16) (e : FVec Ideal S384x256 .bf16) : FVec Ideal S144x256 .f32 :=
  matmul (φ₁ := .bf16) (φ₂ := .bf16) dot_S144x384_S384x256_S144x256_1_0_0_1_n_n none
    (concatenate S144x384 0 [⟨S128x384, (shapeCast S128x384 v shapeCasts_S1x128x384_S128x384 : FVec Ideal S128x384 .bf16)⟩, ⟨S16x384, (broadcast S16x384 (Scalar.ofBits .bf16 0x3F80#16) : FVec Ideal S16x384 .bf16)⟩] concatenates_S128x384_S16x384_S144x384_d0 : FVec Ideal S144x384 .bf16)
    e (constant S144x256 .f32 0x00000000#32)

theorem w384_val (v : Vec Ideal S1x128x384 .bf16) (e : FVec Ideal S384x256 .bf16) (l : Fin 128) (c : Fin 256) :
    w384 v e (ix2 (⟨l.val, by omega⟩ : Fin 144) c) = ∑ k : Fin 384, v (ix3 (0 : Fin 1) l k) * e (ix2 k c) := by
  pointwise [w384]

theorem w384_one (v : Vec Ideal S1x128x384 .bf16) (e : FVec Ideal S384x256 .bf16) (c : Fin 256) :
    w384 v e (ix2 (128 : Fin 144) c) = ∑ k : Fin 384, e (ix2 k c) := by
  have h : w384 v e (ix2 (128 : Fin 144) c) = ∑ k : Fin 384, Ideal.ofBits .bf16 0x3F80#16 * e (ix2 k c) := by
    pointwise [w384]
  rw [h, Ideal.ofBits_one_bf16]
  exact Finset.sum_congr rfl fun k _ => one_mul _

/-- 512 keys against a block of queries. -/
def s512 (q : Vec Ideal S1x128x128 .bf16) (k : Vec Ideal S1x512x128 .bf16) : FVec Ideal S512x256 .f32 :=
  matmul (φ₁ := .bf16) (φ₂ := .bf16) dot_S512x128_S256x128_S512x256_1_1_0_0_n_n none (shapeCast S512x128 k shapeCasts_S1x512x128_S512x128 : FVec Ideal S512x128 .bf16) (qq q) (constant S512x256 .f32 0x00000000#32)

theorem s512_apply (q : Vec Ideal S1x128x128 .bf16) (k : Vec Ideal S1x512x128 .bf16) (j : Fin 512) (hh : Fin 2) (r : Fin 128) :
    s512 q k (ix2 j (col hh r)) = ∑ e : Fin 64, k (ix3 (0 : Fin 1) j (lane hh e)) * q (ix3 (0 : Fin 1) r (lane hh e)) := by
  have h : s512 q k (ix2 j (col hh r)) = ∑ l : Fin 128, k (ix3 (0 : Fin 1) j l) * qq q (ix2 (col hh r) l) := by
    unfold s512
    generalize qq q = Q
    pointwise
  exact h.trans (qq_sum q _ hh r)

/-- Values and rows of ones weighted, over 512 keys. -/
def w512 (v : Vec Ideal S1x128x512 .bf16) (e : FVec Ideal S512x256 .bf16) : FVec Ideal S144x256 .f32 :=
  matmul (φ₁ := .bf16) (φ₂ := .bf16) dot_S144x512_S512x256_S144x256_1_0_0_1_n_n none
    (concatenate S144x512 0 [⟨S128x512, (shapeCast S128x512 v shapeCasts_S1x128x512_S128x512 : FVec Ideal S128x512 .bf16)⟩, ⟨S16x512, (broadcast S16x512 (Scalar.ofBits .bf16 0x3F80#16) : FVec Ideal S16x512 .bf16)⟩] concatenates_S128x512_S16x512_S144x512_d0 : FVec Ideal S144x512 .bf16)
    e (constant S144x256 .f32 0x00000000#32)

theorem w512_val (v : Vec Ideal S1x128x512 .bf16) (e : FVec Ideal S512x256 .bf16) (l : Fin 128) (c : Fin 256) :
    w512 v e (ix2 (⟨l.val, by omega⟩ : Fin 144) c) = ∑ k : Fin 512, v (ix3 (0 : Fin 1) l k) * e (ix2 k c) := by
  pointwise [w512]

theorem w512_one (v : Vec Ideal S1x128x512 .bf16) (e : FVec Ideal S512x256 .bf16) (c : Fin 256) :
    w512 v e (ix2 (128 : Fin 144) c) = ∑ k : Fin 512, e (ix2 k c) := by
  have h : w512 v e (ix2 (128 : Fin 144) c) = ∑ k : Fin 512, Ideal.ofBits .bf16 0x3F80#16 * e (ix2 k c) := by
    pointwise [w512]
  rw [h, Ideal.ofBits_one_bf16]
  exact Finset.sum_congr rfl fun k _ => one_mul _

/-- The weights: powers of two of the scores over a window of 128 keys, the largest taken off. -/
def e128 (sc : Vec Ideal S1x1x128x256 .f32) : FVec Ideal S128x256 .bf16 :=
  let v : FVec Ideal S128x256 .f32 := shapeCast S128x256 sc shapeCasts_S1x1x128x256_S128x256
  truncf .bf16 (exp2 (subf v (broadcastTo S128x256 (shapeCast S1x256 (multiReduction .maximumf [0] S256 v 0xFF800000#32 reduces_S128x256_S256 (.inl rfl) rfl) shapeCasts_S256_S1x256) broadcasts_S1x256_S128x256))) bitsLt_bf16_f32

theorem e128_apply (sc : Vec Ideal S1x1x128x256 .f32) (k : Fin 128) (c : Fin 256) :
    e128 sc (ix2 k c) = Ideal.exp2 (sc (ix4 (0 : Fin 1) (0 : Fin 1) k c) - top fun k => sc (ix4 (0 : Fin 1) (0 : Fin 1) k c)) := by
  rw [top, ← neg_inf]
  pointwise [e128]
  rfl

/-- The weights: powers of two of the scores over a window of 256 keys, the largest taken off. -/
def e256 (sc : Vec Ideal S1x1x256x256 .f32) : FVec Ideal S256x256 .bf16 :=
  let v : FVec Ideal S256x256 .f32 := shapeCast S256x256 sc shapeCasts_S1x1x256x256_S256x256
  truncf .bf16 (exp2 (subf v (broadcastTo S256x256 (shapeCast S1x256 (multiReduction .maximumf [0] S256 v 0xFF800000#32 reduces_S256x256_S256 (.inl rfl) rfl) shapeCasts_S256_S1x256) broadcasts_S1x256_S256x256))) bitsLt_bf16_f32

theorem e256_apply (sc : Vec Ideal S1x1x256x256 .f32) (k : Fin 256) (c : Fin 256) :
    e256 sc (ix2 k c) = Ideal.exp2 (sc (ix4 (0 : Fin 1) (0 : Fin 1) k c) - top fun k => sc (ix4 (0 : Fin 1) (0 : Fin 1) k c)) := by
  rw [top, ← neg_inf]
  pointwise [e256]
  rfl

/-- The weights: powers of two of the scores over a window of 384 keys, the largest taken off. -/
def e384 (sc : Vec Ideal S1x1x384x256 .f32) : FVec Ideal S384x256 .bf16 :=
  let v : FVec Ideal S384x256 .f32 := shapeCast S384x256 sc shapeCasts_S1x1x384x256_S384x256
  truncf .bf16 (exp2 (subf v (broadcastTo S384x256 (shapeCast S1x256 (multiReduction .maximumf [0] S256 v 0xFF800000#32 reduces_S384x256_S256 (.inl rfl) rfl) shapeCasts_S256_S1x256) broadcasts_S1x256_S384x256))) bitsLt_bf16_f32

theorem e384_apply (sc : Vec Ideal S1x1x384x256 .f32) (k : Fin 384) (c : Fin 256) :
    e384 sc (ix2 k c) = Ideal.exp2 (sc (ix4 (0 : Fin 1) (0 : Fin 1) k c) - top fun k => sc (ix4 (0 : Fin 1) (0 : Fin 1) k c)) := by
  rw [top, ← neg_inf]
  pointwise [e384]
  rfl

/-- The weights: powers of two of the scores over a window of 512 keys, the largest taken off. -/
def e512 (sc : Vec Ideal S1x1x512x256 .f32) : FVec Ideal S512x256 .bf16 :=
  let v : FVec Ideal S512x256 .f32 := shapeCast S512x256 sc shapeCasts_S1x1x512x256_S512x256
  truncf .bf16 (exp2 (subf v (broadcastTo S512x256 (shapeCast S1x256 (multiReduction .maximumf [0] S256 v 0xFF800000#32 reduces_S512x256_S256 (.inl rfl) rfl) shapeCasts_S256_S1x256) broadcasts_S1x256_S512x256))) bitsLt_bf16_f32

theorem e512_apply (sc : Vec Ideal S1x1x512x256 .f32) (k : Fin 512) (c : Fin 256) :
    e512 sc (ix2 k c) = Ideal.exp2 (sc (ix4 (0 : Fin 1) (0 : Fin 1) k c) - top fun k => sc (ix4 (0 : Fin 1) (0 : Fin 1) k c)) := by
  rw [top, ← neg_inf]
  pointwise [e512]
  rfl

/-- The weights: powers of two of the scores over a window of 640 keys, the largest taken off. -/
def e640 (sc : Vec Ideal S1x1x640x256 .f32) : FVec Ideal S640x256 .bf16 :=
  let v : FVec Ideal S640x256 .f32 := shapeCast S640x256 sc shapeCasts_S1x1x640x256_S640x256
  truncf .bf16 (exp2 (subf v (broadcastTo S640x256 (shapeCast S1x256 (multiReduction .maximumf [0] S256 v 0xFF800000#32 reduces_S640x256_S256 (.inl rfl) rfl) shapeCasts_S256_S1x256) broadcasts_S1x256_S640x256))) bitsLt_bf16_f32

theorem e640_apply (sc : Vec Ideal S1x1x640x256 .f32) (k : Fin 640) (c : Fin 256) :
    e640 sc (ix2 k c) = Ideal.exp2 (sc (ix4 (0 : Fin 1) (0 : Fin 1) k c) - top fun k => sc (ix4 (0 : Fin 1) (0 : Fin 1) k c)) := by
  rw [top, ← neg_inf]
  pointwise [e640]
  rfl

end Cert.Attn

end

end
-- ==== Proof.Attn.Block.lean ====
/-
  A tile of attention: the function of its blocks, and the pieces the kernel stores as values of it.
-/
module

public import proofs.«01_k».proof.Proof.Attn.Common
public import Idealize.ShloMosaic.Lib.Pipeline.ValueKit

@[expose] public section

noncomputable section

open Idealize.ShloMosaic Idealize.ShloMosaic.TcCoe Idealize.SL.Sem

namespace Cert.Attn

open Cert.Kernel4Ideal Cert.Kernel4Ideal.Gen

/-- The softmax over the window's keys from `a` on. -/
def window (a : ℕ) (S V : Fin 640 → EReal) : EReal :=
  soft (n := 640 - a) (fun k => S ⟨a + k.val, by omega⟩) (fun k => V ⟨a + k.val, by omega⟩)

/-- Column `e` of the head that column `C` belongs to. -/
def headCol (C : Fin 1024) (e : Fin 64) : Fin 1024 := ⟨64 * (C.val / 64) + e.val, by omega⟩

/-- The key at row `u` of the tile before followed by the tile itself. -/
def keyT (xp xc : Vec Ideal S1x512x1024 .bf16) (u : Fin 1024) (C : Fin 1024) : EReal :=
  if h : u.val < 512 then xp (ix3 (0 : Fin 1) ⟨u.val, h⟩ C) else xc (ix3 (0 : Fin 1) ⟨u.val - 512, by omega⟩ C)

/-- The value of column `C` at row `u` of the tile before followed by the tile itself. -/
def valT (xp xc : Vec Ideal S1x1024x512 .bf16) (C : Fin 1024) (u : Fin 1024) : EReal :=
  if h : u.val < 512 then xp (ix3 (0 : Fin 1) C ⟨u.val, h⟩) else xc (ix3 (0 : Fin 1) C ⟨u.val - 512, by omega⟩)

/-- The row of key `j` of the window of the block of queries that row `R` belongs to. -/
def winRow (R : Fin 512) (j : Fin 640) : Fin 1024 := ⟨128 * (R.val / 128) + j.val, by omega⟩

/-- The score of a query and a key of its window, in the head of column `C`. -/
def scoreT (q kp kc : Vec Ideal S1x512x1024 .bf16) (b : Vec Ideal S8x640x256 .f32) (R : Fin 512) (C : Fin 1024) (j : Fin 640) : EReal :=
  (∑ e : Fin 64, keyT kp kc (winRow R j) (headCol C e) * q (ix3 (0 : Fin 1) R (headCol C e)))
    + b (ix3 (⟨C.val / 128, by omega⟩ : Fin 8) j (⟨128 * (C.val / 64 % 2) + R.val % 128, by omega⟩ : Fin 256))

/-- Attention's output at a row and a column, over the window's keys from `a` on. -/
def attT (a : ℕ) (q kp kc : Vec Ideal S1x512x1024 .bf16) (vp vc : Vec Ideal S1x1024x512 .bf16) (b : Vec Ideal S8x640x256 .f32) (R : Fin 512) (C : Fin 1024) : EReal :=
  window a (scoreT q kp kc b R C) fun j => valT vp vc C (winRow R j)

theorem ld3 {A B C n0 n1 n2 o0 o1 o2 : ℕ} {e : EltTy} (x : Vec Ideal ⟨3, ![A, B, C]⟩ e)
    (inb : ∀ a, (![o0, o1, o2] : Fin 3 → ℕ) a + (![n0, n1, n2] : Fin 3 → ℕ) a ≤ (⟨3, ![A, B, C]⟩ : Shape).size a)
    (i : Fin n0) (j : Fin n1) (k : Fin n2) (i' : Fin A) (j' : Fin B) (k' : Fin C)
    (hi : i'.val = o0 + i.val) (hj : j'.val = o1 + j.val) (hk : k'.val = o2 + k.val) :
    View.ld x (Rect.unit (s := ⟨3, ![A, B, C]⟩) ![o0, o1, o2] ![n0, n1, n2] inb) (ix3 i j k) = x (ix3 i' j' k') := by
  show x _ = x _
  congr 1
  funext a
  match a with
  | ⟨0, _⟩ => apply Fin.ext; show o0 + 1 * i.val = i'.val; omega
  | ⟨1, _⟩ => apply Fin.ext; show o1 + 1 * j.val = j'.val; omega
  | ⟨2, _⟩ => apply Fin.ext; show o2 + 1 * k.val = k'.val; omega

/-- A load of the scores' buffer does not see a store for another pair or into the other half. -/
theorem readCov_skip {sig : RefSig} {κ : Kind} {sp : Space} (v : View sig κ sp S2x8x640x256 .f32) (a p j n a' p' j' n' : ℕ) (h : a' ≠ a ∨ p' ≠ p)
    (inb' : ∀ x, (![a', p', j', 0] : Fin 4 → ℕ) x + (![1, 1, n', 256] : Fin 4 → ℕ) x ≤ S2x8x640x256.size x)
    (inb : ∀ x, (![a, p, j, 0] : Fin 4 → ℕ) x + (![1, 1, n, 256] : Fin 4 → ℕ) x ≤ S2x8x640x256.size x)
    (w : (Rect.unit (s := S2x8x640x256) ![a', p', j', 0] ![1, 1, n', 256] inb').shape.Idx → Elt Ideal .f32) (L : List (View.Piece (Elt Ideal) S2x8x640x256 .f32)) :
    v.readCov (⟨Rect.unit (s := S2x8x640x256) ![a', p', j', 0] ![1, 1, n', 256] inb', w⟩ :: L) (Rect.unit (s := S2x8x640x256) ![a, p, j, 0] ![1, 1, n, 256] inb).toLoadRect
      = v.readCov L (Rect.unit (s := S2x8x640x256) ![a, p, j, 0] ![1, 1, n, 256] inb).toLoadRect := by
  rw [View.readCov_eq_canon', View.readCov_eq_canon']
  funext x
  refine View.canon_cons_of_not_mem _ _ fun hm => ?_
  rcases h with h | h
  · obtain ⟨k, hk, e⟩ := (LoadRect.mem_set _).mp hm 0
    have e : a + 1 * (x 0).val = a' + 1 * k := e
    have hk : k < 1 := hk
    have hx : (x 0).val < 1 := (x 0).isLt
    omega
  · obtain ⟨k, hk, e⟩ := (LoadRect.mem_set _).mp hm 1
    have e : p + 1 * (x 1).val = p' + 1 * k := e
    have hk : k < 1 := hk
    have hx : (x 1).val < 1 := (x 1).isLt
    omega

/-- A load of what was just stored. -/
theorem readCov_hit {sig : RefSig} {κ : Kind} {sp : Space} (v : View sig κ sp S2x8x640x256 .f32) (R : Rect S2x8x640x256)
    (w : R.shape.Idx → Elt Ideal .f32) (L : List (View.Piece (Elt Ideal) S2x8x640x256 .f32)) :
    v.readCov (⟨R, w⟩ :: L) R.toLoadRect = w := by
  rw [View.readCov_eq_canon']
  funext x
  exact View.canon_cons_emb _ _ _ _

theorem soft_split (n a b : ℕ) (h : n = a + b) (S V : Fin n → EReal) :
    ((∑ k : Fin b, V ⟨a + k.val, by omega⟩ * Ideal.exp2 (S ⟨a + k.val, by omega⟩ - top S)) + ∑ k : Fin a, V ⟨k.val, by omega⟩ * Ideal.exp2 (S ⟨k.val, by omega⟩ - top S))
      * Ideal.div 1 ((∑ k : Fin b, Ideal.exp2 (S ⟨a + k.val, by omega⟩ - top S)) + ∑ k : Fin a, Ideal.exp2 (S ⟨k.val, by omega⟩ - top S)) = soft S V := by
  subst h
  unfold soft
  rw [Fin.sum_univ_add, Fin.sum_univ_add, add_comm (∑ k : Fin b, _), add_comm (∑ k : Fin b, _)]
  rfl

/-- The pair and head of a column of a pair's lanes. -/
theorem headCol_lane (C : Fin 1024) (p : ℕ) (l : Fin 128) (h : C.val = 128 * p + l.val) (e : Fin 64) : (headCol C e).val = 128 * p + (lane (half l) e).val := by
  show 64 * (C.val / 64) + e.val = 128 * p + (64 * (l.val / 64) + e.val)
  omega

theorem col_half (C : Fin 1024) (R : Fin 512) (p s : ℕ) (r l : Fin 128) (h : C.val = 128 * p + l.val) (hR : R.val = 128 * s + r.val) :
    128 * (C.val / 64 % 2) + R.val % 128 = (col (half l) r).val := by
  show _ = 128 * (l.val / 64) + r.val
  omega

theorem keyT_prev (xp xc : Vec Ideal S1x512x1024 .bf16) (u C : Fin 1024) (j : Fin 512) (h : u.val = j.val) : keyT xp xc u C = xp (ix3 (0 : Fin 1) j C) := by
  unfold keyT
  rw [dif_pos (by omega)]
  exact congrArg (fun j => xp (ix3 (0 : Fin 1) j C)) (Fin.ext h)

theorem keyT_cur (xp xc : Vec Ideal S1x512x1024 .bf16) (u C : Fin 1024) (j : Fin 512) (h : u.val = 512 + j.val) : keyT xp xc u C = xc (ix3 (0 : Fin 1) j C) := by
  unfold keyT
  rw [dif_neg (by omega)]
  exact congrArg (fun j => xc (ix3 (0 : Fin 1) j C)) (Fin.ext (by show u.val - 512 = j.val; omega))

theorem valT_prev (xp xc : Vec Ideal S1x1024x512 .bf16) (u C : Fin 1024) (j : Fin 512) (h : u.val = j.val) : valT xp xc C u = xp (ix3 (0 : Fin 1) C j) := by
  unfold valT
  rw [dif_pos (by omega)]
  exact congrArg (fun j => xp (ix3 (0 : Fin 1) C j)) (Fin.ext h)

theorem valT_cur (xp xc : Vec Ideal S1x1024x512 .bf16) (u C : Fin 1024) (j : Fin 512) (h : u.val = 512 + j.val) : valT xp xc C u = xc (ix3 (0 : Fin 1) C j) := by
  unfold valT
  rw [dif_neg (by omega)]
  exact congrArg (fun j => xc (ix3 (0 : Fin 1) C j)) (Fin.ext (by show u.val - 512 = j.val; omega))

/-- The score's sum and bias from a block of queries, rows of keys and a block of the bias table, each read at the right place. -/
theorem score_eq (q kp kc : Vec Ideal S1x512x1024 .bf16) (b : Vec Ideal S8x640x256 .f32) (p s oc : ℕ) (R : Fin 512) (C : Fin 1024) (j : Fin 640) (r l : Fin 128)
    (hR : R.val = 128 * s + r.val) (hC : C.val = oc + l.val) (ho : oc = 128 * p) (qv kv : Fin 128 → EReal) (bv : EReal)
    (hq : ∀ (c : Fin 128) (c' : Fin 1024), c'.val = oc + c.val → qv c = q (ix3 (0 : Fin 1) R c'))
    (hk : ∀ (c : Fin 128) (c' : Fin 1024), c'.val = oc + c.val → kv c = keyT kp kc (winRow R j) c')
    (hb : ∀ (p' : Fin 8) (c : Fin 256), p'.val = p → c.val = (col (half l) r).val → bv = b (ix3 p' j c)) :
    (∑ e : Fin 64, kv (lane (half l) e) * qv (lane (half l) e)) + bv = scoreT q kp kc b R C j := by
  have hC' : C.val = 128 * p + l.val := by omega
  unfold scoreT
  refine congrArg₂ (· + ·) (Finset.sum_congr rfl fun e _ => ?_) (hb _ _ (by show C.val / 128 = p; omega) (col_half C R p s r l hC' hR))
  have h := (headCol_lane C p l hC' e).trans (by rw [ho] : 128 * p + _ = oc + _)
  rw [hq _ _ h, hk _ _ h]

theorem addf_ideal (A B : FVec Ideal S144x256 .f32) (i : S144x256.Idx) : addf A B i = (A i : EReal) + B i := rfl

/-- The last product: the tile plus its attention times the output matrix. -/
theorem pay2_at (X : Vec Ideal S1x512x1024 .f32) (U : Vec Ideal S512x1024 .bf16) (Wo : Vec Ideal S1024x1024 .bf16)
    (u : Fin 512 → Fin 1024 → EReal) (R : Fin 512) (C : Fin 1024) (hU : ∀ r f, U (ix2 r f) = u r f) :
    k0_pay2 X U Wo (ix3 (0 : Fin 1) R C) = X (ix3 (0 : Fin 1) R C) + ∑ f : Fin 1024, u R f * Wo (ix2 f C) := by
  obtain rfl : u = fun r f => U (ix2 r f) := by funext r f; exact (hU r f).symm
  pointwise [k0_pay2]

/-- The scores of 128 keys. -/
def scA128 (q : Vec Ideal S1x128x128 .bf16) (k : Vec Ideal S1x128x128 .bf16) (b : Vec Ideal S1x128x256 .f32) : FVec Ideal S1x1x128x256 .f32 :=
  shapeCast S1x1x128x256 (addf (s128 q k) (shapeCast S128x256 b shapeCasts_S1x128x256_S128x256)) shapeCasts_S128x256_S1x1x128x256

theorem scA128_apply (q : Vec Ideal S1x128x128 .bf16) (k : Vec Ideal S1x128x128 .bf16) (b : Vec Ideal S1x128x256 .f32) (j : Fin 128) (hh : Fin 2) (r : Fin 128) :
    scA128 q k b (ix4 (0 : Fin 1) (0 : Fin 1) j (col hh r))
      = (∑ e : Fin 64, k (ix3 (0 : Fin 1) j (lane hh e)) * q (ix3 (0 : Fin 1) r (lane hh e))) + b (ix3 (0 : Fin 1) j (col hh r)) := by
  rw [← s128_apply]
  unfold scA128
  generalize s128 q k = Z
  pointwise

/-- The outputs over a window of 128 keys. -/
def outA128 (v : Vec Ideal S1x128x128 .bf16) (sc : Vec Ideal S1x1x128x256 .f32) : FVec Ideal S128x128 .bf16 := fin (w128 v (e128 sc))

theorem outA128_apply (v : Vec Ideal S1x128x128 .bf16) (sc : Vec Ideal S1x1x128x256 .f32) (r l : Fin 128) :
    outA128 v sc (ix2 r l) = soft (fun j => sc (ix4 (0 : Fin 1) (0 : Fin 1) j (col (half l) r))) (fun j => v (ix3 (0 : Fin 1) l j)) := by
  unfold outA128 soft
  rw [fin_apply, w128_val, w128_one]
  simp only [e128_apply]

theorem tileA128 (q kp kc : Vec Ideal S1x512x1024 .bf16) (vp vc : Vec Ideal S1x1024x512 .bf16) (b : Vec Ideal S8x640x256 .f32) (oc p : ℕ) (ho : oc = 128 * p)
    (inb0 inb1 inb2 inb3) (x : S128x128.Idx) (R : Fin 512) (C : Fin 1024) (hR : R.val = 0 + (x 0).val) (hC : C.val = oc + (x 1).val) :
    outA128 (View.ld vc (Rect.unit (s := S1x1024x512) ![0, oc, 0] ![1, 128, 128] inb0))
      (scA128 (View.ld q (Rect.unit (s := S1x512x1024) ![0, 0, oc] ![1, 128, 128] inb1))
        (View.ld kc (Rect.unit (s := S1x512x1024) ![0, 0, oc] ![1, 128, 128] inb2))
        (View.ld b (Rect.unit (s := S8x640x256) ![p, 512, 0] ![1, 128, 256] inb3))) x = attT (512 - 128 * (R.val / 128)) q kp kc vp vc b R C := by
  obtain ⟨r, l, rfl⟩ : ∃ (r l : Fin 128), x = ix2 r l := ⟨x 0, x 1, eq_ix2 x⟩
  have hR : R.val = 0 + r.val := hR
  have hC : C.val = oc + l.val := hC
  have hs : R.val / 128 = 0 := by omega
  rw [outA128_apply, hs]
  refine congrArg₂ (soft (n := 128)) (funext fun j => ?_) (funext fun j => ?_)
  · rw [scA128_apply]
    refine score_eq q kp kc b p 0 oc R C ⟨512 + j.val, by omega⟩ r l (by omega) hC ho
      (fun c => View.ld q (Rect.unit (s := S1x512x1024) ![0, 0, oc] ![1, 128, 128] inb1) (ix3 (0 : Fin 1) r c))
      (fun c => View.ld kc (Rect.unit (s := S1x512x1024) ![0, 0, oc] ![1, 128, 128] inb2) (ix3 (0 : Fin 1) j c)) _ ?_ ?_ ?_
    · exact fun c c' h => ld3 q inb1 0 r c 0 R c' rfl hR h
    · intro c c' h
      rw [keyT_cur kp kc (winRow R _) c' ⟨j.val, by omega⟩ (by show 128 * (R.val / 128) + (512 + j.val) = 512 + j.val; omega)]
      exact ld3 kc inb2 0 j c 0 _ c' rfl (by show j.val = 0 + j.val; omega) h
    · exact fun p' c h0 h => ld3 b inb3 0 j _ p' _ c (by show p'.val = p + 0; omega) rfl (by show c.val = 0 + _; omega)
  · refine Eq.trans ?_ (valT_cur vp vc (winRow R ⟨512 + j.val, by omega⟩) C ⟨j.val, by omega⟩ (by show 128 * (R.val / 128) + (512 + j.val) = 512 + j.val; omega)).symm
    exact ld3 vc inb0 0 l j 0 C _ rfl hC (by show j.val = 0 + j.val; omega)

/-- The scores of 256 keys. -/
def scA256 (q : Vec Ideal S1x128x128 .bf16) (k : Vec Ideal S1x256x128 .bf16) (b : Vec Ideal S1x256x256 .f32) : FVec Ideal S1x1x256x256 .f32 :=
  shapeCast S1x1x256x256 (addf (s256 q k) (shapeCast S256x256 b shapeCasts_S1x256x256_S256x256)) shapeCasts_S256x256_S1x1x256x256

theorem scA256_apply (q : Vec Ideal S1x128x128 .bf16) (k : Vec Ideal S1x256x128 .bf16) (b : Vec Ideal S1x256x256 .f32) (j : Fin 256) (hh : Fin 2) (r : Fin 128) :
    scA256 q k b (ix4 (0 : Fin 1) (0 : Fin 1) j (col hh r))
      = (∑ e : Fin 64, k (ix3 (0 : Fin 1) j (lane hh e)) * q (ix3 (0 : Fin 1) r (lane hh e))) + b (ix3 (0 : Fin 1) j (col hh r)) := by
  rw [← s256_apply]
  unfold scA256
  generalize s256 q k = Z
  pointwise

/-- The outputs over a window of 256 keys. -/
def outA256 (v : Vec Ideal S1x128x256 .bf16) (sc : Vec Ideal S1x1x256x256 .f32) : FVec Ideal S128x128 .bf16 := fin (w256 v (e256 sc))

theorem outA256_apply (v : Vec Ideal S1x128x256 .bf16) (sc : Vec Ideal S1x1x256x256 .f32) (r l : Fin 128) :
    outA256 v sc (ix2 r l) = soft (fun j => sc (ix4 (0 : Fin 1) (0 : Fin 1) j (col (half l) r))) (fun j => v (ix3 (0 : Fin 1) l j)) := by
  unfold outA256 soft
  rw [fin_apply, w256_val, w256_one]
  simp only [e256_apply]

theorem tileA256 (q kp kc : Vec Ideal S1x512x1024 .bf16) (vp vc : Vec Ideal S1x1024x512 .bf16) (b : Vec Ideal S8x640x256 .f32) (oc p : ℕ) (ho : oc = 128 * p)
    (inb0 inb1 inb2 inb3) (x : S128x128.Idx) (R : Fin 512) (C : Fin 1024) (hR : R.val = 128 + (x 0).val) (hC : C.val = oc + (x 1).val) :
    outA256 (View.ld vc (Rect.unit (s := S1x1024x512) ![0, oc, 0] ![1, 128, 256] inb0))
      (scA256 (View.ld q (Rect.unit (s := S1x512x1024) ![0, 128, oc] ![1, 128, 128] inb1))
        (View.ld kc (Rect.unit (s := S1x512x1024) ![0, 0, oc] ![1, 256, 128] inb2))
        (View.ld b (Rect.unit (s := S8x640x256) ![p, 384, 0] ![1, 256, 256] inb3))) x = attT (512 - 128 * (R.val / 128)) q kp kc vp vc b R C := by
  obtain ⟨r, l, rfl⟩ : ∃ (r l : Fin 128), x = ix2 r l := ⟨x 0, x 1, eq_ix2 x⟩
  have hR : R.val = 128 + r.val := hR
  have hC : C.val = oc + l.val := hC
  have hs : R.val / 128 = 1 := by omega
  rw [outA256_apply, hs]
  refine congrArg₂ (soft (n := 256)) (funext fun j => ?_) (funext fun j => ?_)
  · rw [scA256_apply]
    refine score_eq q kp kc b p 1 oc R C ⟨384 + j.val, by omega⟩ r l (by omega) hC ho
      (fun c => View.ld q (Rect.unit (s := S1x512x1024) ![0, 128, oc] ![1, 128, 128] inb1) (ix3 (0 : Fin 1) r c))
      (fun c => View.ld kc (Rect.unit (s := S1x512x1024) ![0, 0, oc] ![1, 256, 128] inb2) (ix3 (0 : Fin 1) j c)) _ ?_ ?_ ?_
    · exact fun c c' h => ld3 q inb1 0 r c 0 R c' rfl hR h
    · intro c c' h
      rw [keyT_cur kp kc (winRow R _) c' ⟨j.val, by omega⟩ (by show 128 * (R.val / 128) + (384 + j.val) = 512 + j.val; omega)]
      exact ld3 kc inb2 0 j c 0 _ c' rfl (by show j.val = 0 + j.val; omega) h
    · exact fun p' c h0 h => ld3 b inb3 0 j _ p' _ c (by show p'.val = p + 0; omega) rfl (by show c.val = 0 + _; omega)
  · refine Eq.trans ?_ (valT_cur vp vc (winRow R ⟨384 + j.val, by omega⟩) C ⟨j.val, by omega⟩ (by show 128 * (R.val / 128) + (384 + j.val) = 512 + j.val; omega)).symm
    exact ld3 vc inb0 0 l j 0 C _ rfl hC (by show j.val = 0 + j.val; omega)

/-- The scores of 384 keys. -/
def scA384 (q : Vec Ideal S1x128x128 .bf16) (k : Vec Ideal S1x384x128 .bf16) (b : Vec Ideal S1x384x256 .f32) : FVec Ideal S1x1x384x256 .f32 :=
  shapeCast S1x1x384x256 (addf (s384 q k) (shapeCast S384x256 b shapeCasts_S1x384x256_S384x256)) shapeCasts_S384x256_S1x1x384x256

theorem scA384_apply (q : Vec Ideal S1x128x128 .bf16) (k : Vec Ideal S1x384x128 .bf16) (b : Vec Ideal S1x384x256 .f32) (j : Fin 384) (hh : Fin 2) (r : Fin 128) :
    scA384 q k b (ix4 (0 : Fin 1) (0 : Fin 1) j (col hh r))
      = (∑ e : Fin 64, k (ix3 (0 : Fin 1) j (lane hh e)) * q (ix3 (0 : Fin 1) r (lane hh e))) + b (ix3 (0 : Fin 1) j (col hh r)) := by
  rw [← s384_apply]
  unfold scA384
  generalize s384 q k = Z
  pointwise

/-- The outputs over a window of 384 keys. -/
def outA384 (v : Vec Ideal S1x128x384 .bf16) (sc : Vec Ideal S1x1x384x256 .f32) : FVec Ideal S128x128 .bf16 := fin (w384 v (e384 sc))

theorem outA384_apply (v : Vec Ideal S1x128x384 .bf16) (sc : Vec Ideal S1x1x384x256 .f32) (r l : Fin 128) :
    outA384 v sc (ix2 r l) = soft (fun j => sc (ix4 (0 : Fin 1) (0 : Fin 1) j (col (half l) r))) (fun j => v (ix3 (0 : Fin 1) l j)) := by
  unfold outA384 soft
  rw [fin_apply, w384_val, w384_one]
  simp only [e384_apply]

theorem tileA384 (q kp kc : Vec Ideal S1x512x1024 .bf16) (vp vc : Vec Ideal S1x1024x512 .bf16) (b : Vec Ideal S8x640x256 .f32) (oc p : ℕ) (ho : oc = 128 * p)
    (inb0 inb1 inb2 inb3) (x : S128x128.Idx) (R : Fin 512) (C : Fin 1024) (hR : R.val = 256 + (x 0).val) (hC : C.val = oc + (x 1).val) :
    outA384 (View.ld vc (Rect.unit (s := S1x1024x512) ![0, oc, 0] ![1, 128, 384] inb0))
      (scA384 (View.ld q (Rect.unit (s := S1x512x1024) ![0, 256, oc] ![1, 128, 128] inb1))
        (View.ld kc (Rect.unit (s := S1x512x1024) ![0, 0, oc] ![1, 384, 128] inb2))
        (View.ld b (Rect.unit (s := S8x640x256) ![p, 256, 0] ![1, 384, 256] inb3))) x = attT (512 - 128 * (R.val / 128)) q kp kc vp vc b R C := by
  obtain ⟨r, l, rfl⟩ : ∃ (r l : Fin 128), x = ix2 r l := ⟨x 0, x 1, eq_ix2 x⟩
  have hR : R.val = 256 + r.val := hR
  have hC : C.val = oc + l.val := hC
  have hs : R.val / 128 = 2 := by omega
  rw [outA384_apply, hs]
  refine congrArg₂ (soft (n := 384)) (funext fun j => ?_) (funext fun j => ?_)
  · rw [scA384_apply]
    refine score_eq q kp kc b p 2 oc R C ⟨256 + j.val, by omega⟩ r l (by omega) hC ho
      (fun c => View.ld q (Rect.unit (s := S1x512x1024) ![0, 256, oc] ![1, 128, 128] inb1) (ix3 (0 : Fin 1) r c))
      (fun c => View.ld kc (Rect.unit (s := S1x512x1024) ![0, 0, oc] ![1, 384, 128] inb2) (ix3 (0 : Fin 1) j c)) _ ?_ ?_ ?_
    · exact fun c c' h => ld3 q inb1 0 r c 0 R c' rfl hR h
    · intro c c' h
      rw [keyT_cur kp kc (winRow R _) c' ⟨j.val, by omega⟩ (by show 128 * (R.val / 128) + (256 + j.val) = 512 + j.val; omega)]
      exact ld3 kc inb2 0 j c 0 _ c' rfl (by show j.val = 0 + j.val; omega) h
    · exact fun p' c h0 h => ld3 b inb3 0 j _ p' _ c (by show p'.val = p + 0; omega) rfl (by show c.val = 0 + _; omega)
  · refine Eq.trans ?_ (valT_cur vp vc (winRow R ⟨256 + j.val, by omega⟩) C ⟨j.val, by omega⟩ (by show 128 * (R.val / 128) + (256 + j.val) = 512 + j.val; omega)).symm
    exact ld3 vc inb0 0 l j 0 C _ rfl hC (by show j.val = 0 + j.val; omega)

/-- The scores of 512 keys. -/
def scA512 (q : Vec Ideal S1x128x128 .bf16) (k : Vec Ideal S1x512x128 .bf16) (b : Vec Ideal S1x512x256 .f32) : FVec Ideal S1x1x512x256 .f32 :=
  shapeCast S1x1x512x256 (addf (s512 q k) (shapeCast S512x256 b shapeCasts_S1x512x256_S512x256)) shapeCasts_S512x256_S1x1x512x256

theorem scA512_apply (q : Vec Ideal S1x128x128 .bf16) (k : Vec Ideal S1x512x128 .bf16) (b : Vec Ideal S1x512x256 .f32) (j : Fin 512) (hh : Fin 2) (r : Fin 128) :
    scA512 q k b (ix4 (0 : Fin 1) (0 : Fin 1) j (col hh r))
      = (∑ e : Fin 64, k (ix3 (0 : Fin 1) j (lane hh e)) * q (ix3 (0 : Fin 1) r (lane hh e))) + b (ix3 (0 : Fin 1) j (col hh r)) := by
  rw [← s512_apply]
  unfold scA512
  generalize s512 q k = Z
  pointwise

/-- The outputs over a window of 512 keys. -/
def outA512 (v : Vec Ideal S1x128x512 .bf16) (sc : Vec Ideal S1x1x512x256 .f32) : FVec Ideal S128x128 .bf16 := fin (w512 v (e512 sc))

theorem outA512_apply (v : Vec Ideal S1x128x512 .bf16) (sc : Vec Ideal S1x1x512x256 .f32) (r l : Fin 128) :
    outA512 v sc (ix2 r l) = soft (fun j => sc (ix4 (0 : Fin 1) (0 : Fin 1) j (col (half l) r))) (fun j => v (ix3 (0 : Fin 1) l j)) := by
  unfold outA512 soft
  rw [fin_apply, w512_val, w512_one]
  simp only [e512_apply]

theorem tileA512 (q kp kc : Vec Ideal S1x512x1024 .bf16) (vp vc : Vec Ideal S1x1024x512 .bf16) (b : Vec Ideal S8x640x256 .f32) (oc p : ℕ) (ho : oc = 128 * p)
    (inb0 inb1 inb2 inb3) (x : S128x128.Idx) (R : Fin 512) (C : Fin 1024) (hR : R.val = 384 + (x 0).val) (hC : C.val = oc + (x 1).val) :
    outA512 (View.ld vc (Rect.unit (s := S1x1024x512) ![0, oc, 0] ![1, 128, 512] inb0))
      (scA512 (View.ld q (Rect.unit (s := S1x512x1024) ![0, 384, oc] ![1, 128, 128] inb1))
        (View.ld kc (Rect.unit (s := S1x512x1024) ![0, 0, oc] ![1, 512, 128] inb2))
        (View.ld b (Rect.unit (s := S8x640x256) ![p, 128, 0] ![1, 512, 256] inb3))) x = attT (512 - 128 * (R.val / 128)) q kp kc vp vc b R C := by
  obtain ⟨r, l, rfl⟩ : ∃ (r l : Fin 128), x = ix2 r l := ⟨x 0, x 1, eq_ix2 x⟩
  have hR : R.val = 384 + r.val := hR
  have hC : C.val = oc + l.val := hC
  have hs : R.val / 128 = 3 := by omega
  rw [outA512_apply, hs]
  refine congrArg₂ (soft (n := 512)) (funext fun j => ?_) (funext fun j => ?_)
  · rw [scA512_apply]
    refine score_eq q kp kc b p 3 oc R C ⟨128 + j.val, by omega⟩ r l (by omega) hC ho
      (fun c => View.ld q (Rect.unit (s := S1x512x1024) ![0, 384, oc] ![1, 128, 128] inb1) (ix3 (0 : Fin 1) r c))
      (fun c => View.ld kc (Rect.unit (s := S1x512x1024) ![0, 0, oc] ![1, 512, 128] inb2) (ix3 (0 : Fin 1) j c)) _ ?_ ?_ ?_
    · exact fun c c' h => ld3 q inb1 0 r c 0 R c' rfl hR h
    · intro c c' h
      rw [keyT_cur kp kc (winRow R _) c' ⟨j.val, by omega⟩ (by show 128 * (R.val / 128) + (128 + j.val) = 512 + j.val; omega)]
      exact ld3 kc inb2 0 j c 0 _ c' rfl (by show j.val = 0 + j.val; omega) h
    · exact fun p' c h0 h => ld3 b inb3 0 j _ p' _ c (by show p'.val = p + 0; omega) rfl (by show c.val = 0 + _; omega)
  · refine Eq.trans ?_ (valT_cur vp vc (winRow R ⟨128 + j.val, by omega⟩) C ⟨j.val, by omega⟩ (by show 128 * (R.val / 128) + (128 + j.val) = 512 + j.val; omega)).symm
    exact ld3 vc inb0 0 l j 0 C _ rfl hC (by show j.val = 0 + j.val; omega)

/-- The scores of 512 keys of the tile before and 128 of the tile itself. -/
def scB128 (q : Vec Ideal S1x128x128 .bf16) (kp : Vec Ideal S1x512x128 .bf16) (kc : Vec Ideal S1x128x128 .bf16) (b : Vec Ideal S1x640x256 .f32) : FVec Ideal S1x1x640x256 .f32 :=
  shapeCast S1x1x640x256 (addf (concatenate S640x256 0 [⟨S512x256, s512 q kp⟩, ⟨S128x256, s128 q kc⟩] concatenates_S512x256_S128x256_S640x256_d0) (shapeCast S640x256 b shapeCasts_S1x640x256_S640x256)) shapeCasts_S640x256_S1x1x640x256

theorem scB128_prev (q : Vec Ideal S1x128x128 .bf16) (kp : Vec Ideal S1x512x128 .bf16) (kc : Vec Ideal S1x128x128 .bf16) (b : Vec Ideal S1x640x256 .f32) (j : Fin 512) (hh : Fin 2) (r : Fin 128) :
    scB128 q kp kc b (ix4 (0 : Fin 1) (0 : Fin 1) (⟨j.val, by omega⟩ : Fin 640) (col hh r))
      = (∑ e : Fin 64, kp (ix3 (0 : Fin 1) j (lane hh e)) * q (ix3 (0 : Fin 1) r (lane hh e))) + b (ix3 (0 : Fin 1) (⟨j.val, by omega⟩ : Fin 640) (col hh r)) := by
  rw [← s512_apply]
  unfold scB128
  generalize s512 q kp = Z
  generalize s128 q kc = Z'
  pointwise

theorem scB128_cur (q : Vec Ideal S1x128x128 .bf16) (kp : Vec Ideal S1x512x128 .bf16) (kc : Vec Ideal S1x128x128 .bf16) (b : Vec Ideal S1x640x256 .f32) (j : Fin 128) (hh : Fin 2) (r : Fin 128) :
    scB128 q kp kc b (ix4 (0 : Fin 1) (0 : Fin 1) (⟨512 + j.val, by omega⟩ : Fin 640) (col hh r))
      = (∑ e : Fin 64, kc (ix3 (0 : Fin 1) j (lane hh e)) * q (ix3 (0 : Fin 1) r (lane hh e))) + b (ix3 (0 : Fin 1) (⟨512 + j.val, by omega⟩ : Fin 640) (col hh r)) := by
  rw [← s128_apply]
  unfold scB128
  generalize s512 q kp = Z
  generalize s128 q kc = Z'
  pointwise

/-- The outputs over a window of 512 keys of the tile before and 128 of the tile itself. -/
def outB128 (vc : Vec Ideal S1x128x128 .bf16) (vp : Vec Ideal S1x128x512 .bf16) (sc : Vec Ideal S1x1x640x256 .f32) : FVec Ideal S128x128 .bf16 :=
  fin (addf (w128 vc (extractStridedSlice S128x256 ![512, 0] (e640 sc) slices_S640x256_o512_0_S128x256))
    (w512 vp (extractStridedSlice S512x256 ![0, 0] (e640 sc) slices_S640x256_o0_0_S512x256)))

theorem outB128_apply (vc : Vec Ideal S1x128x128 .bf16) (vp : Vec Ideal S1x128x512 .bf16) (sc : Vec Ideal S1x1x640x256 .f32) (r l : Fin 128) (V : Fin 640 → EReal)
    (hp : ∀ j : Fin 512, vp (ix3 (0 : Fin 1) l j) = V ⟨j.val, by omega⟩) (hc : ∀ j : Fin 128, vc (ix3 (0 : Fin 1) l j) = V ⟨512 + j.val, by omega⟩) :
    outB128 vc vp sc (ix2 r l) = soft (fun j => sc (ix4 (0 : Fin 1) (0 : Fin 1) j (col (half l) r))) V := by
  have ec : ∀ (k : Fin 128) (c : Fin 256), extractStridedSlice S128x256 ![512, 0] (e640 sc) slices_S640x256_o512_0_S128x256 (ix2 k c) = e640 sc (ix2 (⟨512 + k.val, by omega⟩ : Fin 640) c) := by
    intro k c
    generalize e640 sc = Z
    pointwise
  have ep : ∀ (k : Fin 512) (c : Fin 256), extractStridedSlice S512x256 ![0, 0] (e640 sc) slices_S640x256_o0_0_S512x256 (ix2 k c) = e640 sc (ix2 (⟨k.val, by omega⟩ : Fin 640) c) := by
    intro k c
    generalize e640 sc = Z
    pointwise
  unfold outB128
  rw [fin_apply]
  simp only [addf_ideal, w128_val, w128_one, w512_val, w512_one, ec, ep, e640_apply, hp, hc]
  exact soft_split 640 512 128 rfl (fun j => sc (ix4 (0 : Fin 1) (0 : Fin 1) j (col (half l) r))) V

theorem tileB128 (q kp kc : Vec Ideal S1x512x1024 .bf16) (vp vc : Vec Ideal S1x1024x512 .bf16) (b : Vec Ideal S8x640x256 .f32) (oc p : ℕ) (ho : oc = 128 * p)
    (inb0 inb0' inb1 inb2 inb2' inb3) (x : S128x128.Idx) (R : Fin 512) (C : Fin 1024) (hR : R.val = 0 + (x 0).val) (hC : C.val = oc + (x 1).val) :
    outB128 (View.ld vc (Rect.unit (s := S1x1024x512) ![0, oc, 0] ![1, 128, 128] inb0))
      (View.ld vp (Rect.unit (s := S1x1024x512) ![0, oc, 0] ![1, 128, 512] inb0'))
      (scB128 (View.ld q (Rect.unit (s := S1x512x1024) ![0, 0, oc] ![1, 128, 128] inb1))
        (View.ld kp (Rect.unit (s := S1x512x1024) ![0, 0, oc] ![1, 512, 128] inb2'))
        (View.ld kc (Rect.unit (s := S1x512x1024) ![0, 0, oc] ![1, 128, 128] inb2))
        (View.ld b (Rect.unit (s := S8x640x256) ![p, 0, 0] ![1, 640, 256] inb3))) x = attT 0 q kp kc vp vc b R C := by
  obtain ⟨r, l, rfl⟩ : ∃ (r l : Fin 128), x = ix2 r l := ⟨x 0, x 1, eq_ix2 x⟩
  have hR : R.val = 0 + r.val := hR
  have hC : C.val = oc + l.val := hC
  rw [outB128_apply _ _ _ r l (fun j => valT vp vc C (winRow R j))]
  · have e0 : attT 0 q kp kc vp vc b R C = soft (scoreT q kp kc b R C) (fun j => valT vp vc C (winRow R j)) := by
      refine congrArg₂ (soft (n := 640)) (funext fun j => congrArg _ (Fin.ext ?_)) (funext fun j => congrArg (fun j => valT vp vc C (winRow R j)) (Fin.ext ?_)) <;>
      exact Nat.zero_add _
    rw [e0]
    refine congrArg (fun S => soft S _) (funext fun j => ?_)
    by_cases hj : j.val < 512
    · refine (scB128_prev _ _ _ _ ⟨j.val, hj⟩ (half l) r).trans (score_eq q kp kc b p 0 oc R C j r l (by omega) hC ho
        (fun c => View.ld q (Rect.unit (s := S1x512x1024) ![0, 0, oc] ![1, 128, 128] inb1) (ix3 (0 : Fin 1) r c))
        (fun c => View.ld kp (Rect.unit (s := S1x512x1024) ![0, 0, oc] ![1, 512, 128] inb2') (ix3 (0 : Fin 1) (⟨j.val, hj⟩ : Fin 512) c)) _ ?_ ?_ ?_)
      · exact fun c c' h => ld3 q inb1 0 r c 0 R c' rfl hR h
      · intro c c' h
        rw [keyT_prev kp kc (winRow R _) c' ⟨0 + j.val, by omega⟩ (by show 128 * (R.val / 128) + j.val = 0 + j.val; omega)]
        exact ld3 kp inb2' 0 _ c 0 _ c' rfl rfl h
      · exact fun p' c h0 h => ld3 b inb3 0 _ _ p' _ c (by show p'.val = p + 0; omega) (by show j.val = 0 + j.val; omega) (by show c.val = 0 + _; omega)
    · obtain ⟨i, rfl⟩ : ∃ i : Fin 128, j = ⟨512 + i.val, Nat.add_lt_add_left i.isLt 512⟩ := ⟨⟨j.val - 512, by omega⟩, Fin.ext (by show j.val = 512 + (j.val - 512); omega)⟩
      refine (scB128_cur _ _ _ _ i (half l) r).trans (score_eq q kp kc b p 0 oc R C _ r l (by omega) hC ho
        (fun c => View.ld q (Rect.unit (s := S1x512x1024) ![0, 0, oc] ![1, 128, 128] inb1) (ix3 (0 : Fin 1) r c))
        (fun c => View.ld kc (Rect.unit (s := S1x512x1024) ![0, 0, oc] ![1, 128, 128] inb2) (ix3 (0 : Fin 1) i c)) _ ?_ ?_ ?_)
      · exact fun c c' h => ld3 q inb1 0 r c 0 R c' rfl hR h
      · intro c c' h
        rw [keyT_cur kp kc (winRow R _) c' ⟨i.val, by omega⟩ (by show 128 * (R.val / 128) + (512 + i.val) = 512 + i.val; omega)]
        exact ld3 kc inb2 0 i c 0 _ c' rfl (by show i.val = 0 + i.val; omega) h
      · exact fun p' c h0 h => ld3 b inb3 0 _ _ p' _ c (by show p'.val = p + 0; omega) (by show 512 + i.val = 0 + (512 + i.val); omega) (by show c.val = 0 + _; omega)
  · intro j
    refine Eq.trans ?_ (valT_prev vp vc (winRow R _) C ⟨0 + j.val, by omega⟩ (by show 128 * (R.val / 128) + j.val = 0 + j.val; omega)).symm
    exact ld3 vp inb0' 0 l j 0 C _ rfl hC rfl
  · intro j
    refine Eq.trans ?_ (valT_cur vp vc (winRow R _) C ⟨j.val, by omega⟩ (by show 128 * (R.val / 128) + (512 + j.val) = 512 + j.val; omega)).symm
    exact ld3 vc inb0 0 l j 0 C _ rfl hC (by show j.val = 0 + j.val; omega)

/-- The scores of 384 keys of the tile before and 256 of the tile itself. -/
def scB256 (q : Vec Ideal S1x128x128 .bf16) (kp : Vec Ideal S1x384x128 .bf16) (kc : Vec Ideal S1x256x128 .bf16) (b : Vec Ideal S1x640x256 .f32) : FVec Ideal S1x1x640x256 .f32 :=
  shapeCast S1x1x640x256 (addf (concatenate S640x256 0 [⟨S384x256, s384 q kp⟩, ⟨S256x256, s256 q kc⟩] concatenates_S384x256_S256x256_S640x256_d0) (shapeCast S640x256 b shapeCasts_S1x640x256_S640x256)) shapeCasts_S640x256_S1x1x640x256

theorem scB256_prev (q : Vec Ideal S1x128x128 .bf16) (kp : Vec Ideal S1x384x128 .bf16) (kc : Vec Ideal S1x256x128 .bf16) (b : Vec Ideal S1x640x256 .f32) (j : Fin 384) (hh : Fin 2) (r : Fin 128) :
    scB256 q kp kc b (ix4 (0 : Fin 1) (0 : Fin 1) (⟨j.val, by omega⟩ : Fin 640) (col hh r))
      = (∑ e : Fin 64, kp (ix3 (0 : Fin 1) j (lane hh e)) * q (ix3 (0 : Fin 1) r (lane hh e))) + b (ix3 (0 : Fin 1) (⟨j.val, by omega⟩ : Fin 640) (col hh r)) := by
  rw [← s384_apply]
  unfold scB256
  generalize s384 q kp = Z
  generalize s256 q kc = Z'
  pointwise

theorem scB256_cur (q : Vec Ideal S1x128x128 .bf16) (kp : Vec Ideal S1x384x128 .bf16) (kc : Vec Ideal S1x256x128 .bf16) (b : Vec Ideal S1x640x256 .f32) (j : Fin 256) (hh : Fin 2) (r : Fin 128) :
    scB256 q kp kc b (ix4 (0 : Fin 1) (0 : Fin 1) (⟨384 + j.val, by omega⟩ : Fin 640) (col hh r))
      = (∑ e : Fin 64, kc (ix3 (0 : Fin 1) j (lane hh e)) * q (ix3 (0 : Fin 1) r (lane hh e))) + b (ix3 (0 : Fin 1) (⟨384 + j.val, by omega⟩ : Fin 640) (col hh r)) := by
  rw [← s256_apply]
  unfold scB256
  generalize s384 q kp = Z
  generalize s256 q kc = Z'
  pointwise

/-- The outputs over a window of 384 keys of the tile before and 256 of the tile itself. -/
def outB256 (vc : Vec Ideal S1x128x256 .bf16) (vp : Vec Ideal S1x128x384 .bf16) (sc : Vec Ideal S1x1x640x256 .f32) : FVec Ideal S128x128 .bf16 :=
  fin (addf (w256 vc (extractStridedSlice S256x256 ![384, 0] (e640 sc) slices_S640x256_o384_0_S256x256))
    (w384 vp (extractStridedSlice S384x256 ![0, 0] (e640 sc) slices_S640x256_o0_0_S384x256)))

theorem outB256_apply (vc : Vec Ideal S1x128x256 .bf16) (vp : Vec Ideal S1x128x384 .bf16) (sc : Vec Ideal S1x1x640x256 .f32) (r l : Fin 128) (V : Fin 640 → EReal)
    (hp : ∀ j : Fin 384, vp (ix3 (0 : Fin 1) l j) = V ⟨j.val, by omega⟩) (hc : ∀ j : Fin 256, vc (ix3 (0 : Fin 1) l j) = V ⟨384 + j.val, by omega⟩) :
    outB256 vc vp sc (ix2 r l) = soft (fun j => sc (ix4 (0 : Fin 1) (0 : Fin 1) j (col (half l) r))) V := by
  have ec : ∀ (k : Fin 256) (c : Fin 256), extractStridedSlice S256x256 ![384, 0] (e640 sc) slices_S640x256_o384_0_S256x256 (ix2 k c) = e640 sc (ix2 (⟨384 + k.val, by omega⟩ : Fin 640) c) := by
    intro k c
    generalize e640 sc = Z
    pointwise
  have ep : ∀ (k : Fin 384) (c : Fin 256), extractStridedSlice S384x256 ![0, 0] (e640 sc) slices_S640x256_o0_0_S384x256 (ix2 k c) = e640 sc (ix2 (⟨k.val, by omega⟩ : Fin 640) c) := by
    intro k c
    generalize e640 sc = Z
    pointwise
  unfold outB256
  rw [fin_apply]
  simp only [addf_ideal, w256_val, w256_one, w384_val, w384_one, ec, ep, e640_apply, hp, hc]
  exact soft_split 640 384 256 rfl (fun j => sc (ix4 (0 : Fin 1) (0 : Fin 1) j (col (half l) r))) V

theorem tileB256 (q kp kc : Vec Ideal S1x512x1024 .bf16) (vp vc : Vec Ideal S1x1024x512 .bf16) (b : Vec Ideal S8x640x256 .f32) (oc p : ℕ) (ho : oc = 128 * p)
    (inb0 inb0' inb1 inb2 inb2' inb3) (x : S128x128.Idx) (R : Fin 512) (C : Fin 1024) (hR : R.val = 128 + (x 0).val) (hC : C.val = oc + (x 1).val) :
    outB256 (View.ld vc (Rect.unit (s := S1x1024x512) ![0, oc, 0] ![1, 128, 256] inb0))
      (View.ld vp (Rect.unit (s := S1x1024x512) ![0, oc, 128] ![1, 128, 384] inb0'))
      (scB256 (View.ld q (Rect.unit (s := S1x512x1024) ![0, 128, oc] ![1, 128, 128] inb1))
        (View.ld kp (Rect.unit (s := S1x512x1024) ![0, 128, oc] ![1, 384, 128] inb2'))
        (View.ld kc (Rect.unit (s := S1x512x1024) ![0, 0, oc] ![1, 256, 128] inb2))
        (View.ld b (Rect.unit (s := S8x640x256) ![p, 0, 0] ![1, 640, 256] inb3))) x = attT 0 q kp kc vp vc b R C := by
  obtain ⟨r, l, rfl⟩ : ∃ (r l : Fin 128), x = ix2 r l := ⟨x 0, x 1, eq_ix2 x⟩
  have hR : R.val = 128 + r.val := hR
  have hC : C.val = oc + l.val := hC
  rw [outB256_apply _ _ _ r l (fun j => valT vp vc C (winRow R j))]
  · have e0 : attT 0 q kp kc vp vc b R C = soft (scoreT q kp kc b R C) (fun j => valT vp vc C (winRow R j)) := by
      refine congrArg₂ (soft (n := 640)) (funext fun j => congrArg _ (Fin.ext ?_)) (funext fun j => congrArg (fun j => valT vp vc C (winRow R j)) (Fin.ext ?_)) <;>
      exact Nat.zero_add _
    rw [e0]
    refine congrArg (fun S => soft S _) (funext fun j => ?_)
    by_cases hj : j.val < 384
    · refine (scB256_prev _ _ _ _ ⟨j.val, hj⟩ (half l) r).trans (score_eq q kp kc b p 1 oc R C j r l (by omega) hC ho
        (fun c => View.ld q (Rect.unit (s := S1x512x1024) ![0, 128, oc] ![1, 128, 128] inb1) (ix3 (0 : Fin 1) r c))
        (fun c => View.ld kp (Rect.unit (s := S1x512x1024) ![0, 128, oc] ![1, 384, 128] inb2') (ix3 (0 : Fin 1) (⟨j.val, hj⟩ : Fin 384) c)) _ ?_ ?_ ?_)
      · exact fun c c' h => ld3 q inb1 0 r c 0 R c' rfl hR h
      · intro c c' h
        rw [keyT_prev kp kc (winRow R _) c' ⟨128 + j.val, by omega⟩ (by show 128 * (R.val / 128) + j.val = 128 + j.val; omega)]
        exact ld3 kp inb2' 0 _ c 0 _ c' rfl rfl h
      · exact fun p' c h0 h => ld3 b inb3 0 _ _ p' _ c (by show p'.val = p + 0; omega) (by show j.val = 0 + j.val; omega) (by show c.val = 0 + _; omega)
    · obtain ⟨i, rfl⟩ : ∃ i : Fin 256, j = ⟨384 + i.val, Nat.add_lt_add_left i.isLt 384⟩ := ⟨⟨j.val - 384, by omega⟩, Fin.ext (by show j.val = 384 + (j.val - 384); omega)⟩
      refine (scB256_cur _ _ _ _ i (half l) r).trans (score_eq q kp kc b p 1 oc R C _ r l (by omega) hC ho
        (fun c => View.ld q (Rect.unit (s := S1x512x1024) ![0, 128, oc] ![1, 128, 128] inb1) (ix3 (0 : Fin 1) r c))
        (fun c => View.ld kc (Rect.unit (s := S1x512x1024) ![0, 0, oc] ![1, 256, 128] inb2) (ix3 (0 : Fin 1) i c)) _ ?_ ?_ ?_)
      · exact fun c c' h => ld3 q inb1 0 r c 0 R c' rfl hR h
      · intro c c' h
        rw [keyT_cur kp kc (winRow R _) c' ⟨i.val, by omega⟩ (by show 128 * (R.val / 128) + (384 + i.val) = 512 + i.val; omega)]
        exact ld3 kc inb2 0 i c 0 _ c' rfl (by show i.val = 0 + i.val; omega) h
      · exact fun p' c h0 h => ld3 b inb3 0 _ _ p' _ c (by show p'.val = p + 0; omega) (by show 384 + i.val = 0 + (384 + i.val); omega) (by show c.val = 0 + _; omega)
  · intro j
    refine Eq.trans ?_ (valT_prev vp vc (winRow R _) C ⟨128 + j.val, by omega⟩ (by show 128 * (R.val / 128) + j.val = 128 + j.val; omega)).symm
    exact ld3 vp inb0' 0 l j 0 C _ rfl hC rfl
  · intro j
    refine Eq.trans ?_ (valT_cur vp vc (winRow R _) C ⟨j.val, by omega⟩ (by show 128 * (R.val / 128) + (384 + j.val) = 512 + j.val; omega)).symm
    exact ld3 vc inb0 0 l j 0 C _ rfl hC (by show j.val = 0 + j.val; omega)

/-- The scores of 256 keys of the tile before and 384 of the tile itself. -/
def scB384 (q : Vec Ideal S1x128x128 .bf16) (kp : Vec Ideal S1x256x128 .bf16) (kc : Vec Ideal S1x384x128 .bf16) (b : Vec Ideal S1x640x256 .f32) : FVec Ideal S1x1x640x256 .f32 :=
  shapeCast S1x1x640x256 (addf (concatenate S640x256 0 [⟨S256x256, s256 q kp⟩, ⟨S384x256, s384 q kc⟩] concatenates_S256x256_S384x256_S640x256_d0) (shapeCast S640x256 b shapeCasts_S1x640x256_S640x256)) shapeCasts_S640x256_S1x1x640x256

theorem scB384_prev (q : Vec Ideal S1x128x128 .bf16) (kp : Vec Ideal S1x256x128 .bf16) (kc : Vec Ideal S1x384x128 .bf16) (b : Vec Ideal S1x640x256 .f32) (j : Fin 256) (hh : Fin 2) (r : Fin 128) :
    scB384 q kp kc b (ix4 (0 : Fin 1) (0 : Fin 1) (⟨j.val, by omega⟩ : Fin 640) (col hh r))
      = (∑ e : Fin 64, kp (ix3 (0 : Fin 1) j (lane hh e)) * q (ix3 (0 : Fin 1) r (lane hh e))) + b (ix3 (0 : Fin 1) (⟨j.val, by omega⟩ : Fin 640) (col hh r)) := by
  rw [← s256_apply]
  unfold scB384
  generalize s256 q kp = Z
  generalize s384 q kc = Z'
  pointwise

theorem scB384_cur (q : Vec Ideal S1x128x128 .bf16) (kp : Vec Ideal S1x256x128 .bf16) (kc : Vec Ideal S1x384x128 .bf16) (b : Vec Ideal S1x640x256 .f32) (j : Fin 384) (hh : Fin 2) (r : Fin 128) :
    scB384 q kp kc b (ix4 (0 : Fin 1) (0 : Fin 1) (⟨256 + j.val, by omega⟩ : Fin 640) (col hh r))
      = (∑ e : Fin 64, kc (ix3 (0 : Fin 1) j (lane hh e)) * q (ix3 (0 : Fin 1) r (lane hh e))) + b (ix3 (0 : Fin 1) (⟨256 + j.val, by omega⟩ : Fin 640) (col hh r)) := by
  rw [← s384_apply]
  unfold scB384
  generalize s256 q kp = Z
  generalize s384 q kc = Z'
  pointwise

/-- The outputs over a window of 256 keys of the tile before and 384 of the tile itself. -/
def outB384 (vc : Vec Ideal S1x128x384 .bf16) (vp : Vec Ideal S1x128x256 .bf16) (sc : Vec Ideal S1x1x640x256 .f32) : FVec Ideal S128x128 .bf16 :=
  fin (addf (w384 vc (extractStridedSlice S384x256 ![256, 0] (e640 sc) slices_S640x256_o256_0_S384x256))
    (w256 vp (extractStridedSlice S256x256 ![0, 0] (e640 sc) slices_S640x256_o0_0_S256x256)))

theorem outB384_apply (vc : Vec Ideal S1x128x384 .bf16) (vp : Vec Ideal S1x128x256 .bf16) (sc : Vec Ideal S1x1x640x256 .f32) (r l : Fin 128) (V : Fin 640 → EReal)
    (hp : ∀ j : Fin 256, vp (ix3 (0 : Fin 1) l j) = V ⟨j.val, by omega⟩) (hc : ∀ j : Fin 384, vc (ix3 (0 : Fin 1) l j) = V ⟨256 + j.val, by omega⟩) :
    outB384 vc vp sc (ix2 r l) = soft (fun j => sc (ix4 (0 : Fin 1) (0 : Fin 1) j (col (half l) r))) V := by
  have ec : ∀ (k : Fin 384) (c : Fin 256), extractStridedSlice S384x256 ![256, 0] (e640 sc) slices_S640x256_o256_0_S384x256 (ix2 k c) = e640 sc (ix2 (⟨256 + k.val, by omega⟩ : Fin 640) c) := by
    intro k c
    generalize e640 sc = Z
    pointwise
  have ep : ∀ (k : Fin 256) (c : Fin 256), extractStridedSlice S256x256 ![0, 0] (e640 sc) slices_S640x256_o0_0_S256x256 (ix2 k c) = e640 sc (ix2 (⟨k.val, by omega⟩ : Fin 640) c) := by
    intro k c
    generalize e640 sc = Z
    pointwise
  unfold outB384
  rw [fin_apply]
  simp only [addf_ideal, w384_val, w384_one, w256_val, w256_one, ec, ep, e640_apply, hp, hc]
  exact soft_split 640 256 384 rfl (fun j => sc (ix4 (0 : Fin 1) (0 : Fin 1) j (col (half l) r))) V

theorem tileB384 (q kp kc : Vec Ideal S1x512x1024 .bf16) (vp vc : Vec Ideal S1x1024x512 .bf16) (b : Vec Ideal S8x640x256 .f32) (oc p : ℕ) (ho : oc = 128 * p)
    (inb0 inb0' inb1 inb2 inb2' inb3) (x : S128x128.Idx) (R : Fin 512) (C : Fin 1024) (hR : R.val = 256 + (x 0).val) (hC : C.val = oc + (x 1).val) :
    outB384 (View.ld vc (Rect.unit (s := S1x1024x512) ![0, oc, 0] ![1, 128, 384] inb0))
      (View.ld vp (Rect.unit (s := S1x1024x512) ![0, oc, 256] ![1, 128, 256] inb0'))
      (scB384 (View.ld q (Rect.unit (s := S1x512x1024) ![0, 256, oc] ![1, 128, 128] inb1))
        (View.ld kp (Rect.unit (s := S1x512x1024) ![0, 256, oc] ![1, 256, 128] inb2'))
        (View.ld kc (Rect.unit (s := S1x512x1024) ![0, 0, oc] ![1, 384, 128] inb2))
        (View.ld b (Rect.unit (s := S8x640x256) ![p, 0, 0] ![1, 640, 256] inb3))) x = attT 0 q kp kc vp vc b R C := by
  obtain ⟨r, l, rfl⟩ : ∃ (r l : Fin 128), x = ix2 r l := ⟨x 0, x 1, eq_ix2 x⟩
  have hR : R.val = 256 + r.val := hR
  have hC : C.val = oc + l.val := hC
  rw [outB384_apply _ _ _ r l (fun j => valT vp vc C (winRow R j))]
  · have e0 : attT 0 q kp kc vp vc b R C = soft (scoreT q kp kc b R C) (fun j => valT vp vc C (winRow R j)) := by
      refine congrArg₂ (soft (n := 640)) (funext fun j => congrArg _ (Fin.ext ?_)) (funext fun j => congrArg (fun j => valT vp vc C (winRow R j)) (Fin.ext ?_)) <;>
      exact Nat.zero_add _
    rw [e0]
    refine congrArg (fun S => soft S _) (funext fun j => ?_)
    by_cases hj : j.val < 256
    · refine (scB384_prev _ _ _ _ ⟨j.val, hj⟩ (half l) r).trans (score_eq q kp kc b p 2 oc R C j r l (by omega) hC ho
        (fun c => View.ld q (Rect.unit (s := S1x512x1024) ![0, 256, oc] ![1, 128, 128] inb1) (ix3 (0 : Fin 1) r c))
        (fun c => View.ld kp (Rect.unit (s := S1x512x1024) ![0, 256, oc] ![1, 256, 128] inb2') (ix3 (0 : Fin 1) (⟨j.val, hj⟩ : Fin 256) c)) _ ?_ ?_ ?_)
      · exact fun c c' h => ld3 q inb1 0 r c 0 R c' rfl hR h
      · intro c c' h
        rw [keyT_prev kp kc (winRow R _) c' ⟨256 + j.val, by omega⟩ (by show 128 * (R.val / 128) + j.val = 256 + j.val; omega)]
        exact ld3 kp inb2' 0 _ c 0 _ c' rfl rfl h
      · exact fun p' c h0 h => ld3 b inb3 0 _ _ p' _ c (by show p'.val = p + 0; omega) (by show j.val = 0 + j.val; omega) (by show c.val = 0 + _; omega)
    · obtain ⟨i, rfl⟩ : ∃ i : Fin 384, j = ⟨256 + i.val, Nat.add_lt_add_left i.isLt 256⟩ := ⟨⟨j.val - 256, by omega⟩, Fin.ext (by show j.val = 256 + (j.val - 256); omega)⟩
      refine (scB384_cur _ _ _ _ i (half l) r).trans (score_eq q kp kc b p 2 oc R C _ r l (by omega) hC ho
        (fun c => View.ld q (Rect.unit (s := S1x512x1024) ![0, 256, oc] ![1, 128, 128] inb1) (ix3 (0 : Fin 1) r c))
        (fun c => View.ld kc (Rect.unit (s := S1x512x1024) ![0, 0, oc] ![1, 384, 128] inb2) (ix3 (0 : Fin 1) i c)) _ ?_ ?_ ?_)
      · exact fun c c' h => ld3 q inb1 0 r c 0 R c' rfl hR h
      · intro c c' h
        rw [keyT_cur kp kc (winRow R _) c' ⟨i.val, by omega⟩ (by show 128 * (R.val / 128) + (256 + i.val) = 512 + i.val; omega)]
        exact ld3 kc inb2 0 i c 0 _ c' rfl (by show i.val = 0 + i.val; omega) h
      · exact fun p' c h0 h => ld3 b inb3 0 _ _ p' _ c (by show p'.val = p + 0; omega) (by show 256 + i.val = 0 + (256 + i.val); omega) (by show c.val = 0 + _; omega)
  · intro j
    refine Eq.trans ?_ (valT_prev vp vc (winRow R _) C ⟨256 + j.val, by omega⟩ (by show 128 * (R.val / 128) + j.val = 256 + j.val; omega)).symm
    exact ld3 vp inb0' 0 l j 0 C _ rfl hC rfl
  · intro j
    refine Eq.trans ?_ (valT_cur vp vc (winRow R _) C ⟨j.val, by omega⟩ (by show 128 * (R.val / 128) + (256 + j.val) = 512 + j.val; omega)).symm
    exact ld3 vc inb0 0 l j 0 C _ rfl hC (by show j.val = 0 + j.val; omega)

/-- The scores of 128 keys of the tile before and 512 of the tile itself. -/
def scB512 (q : Vec Ideal S1x128x128 .bf16) (kp : Vec Ideal S1x128x128 .bf16) (kc : Vec Ideal S1x512x128 .bf16) (b : Vec Ideal S1x640x256 .f32) : FVec Ideal S1x1x640x256 .f32 :=
  shapeCast S1x1x640x256 (addf (concatenate S640x256 0 [⟨S128x256, s128 q kp⟩, ⟨S512x256, s512 q kc⟩] concatenates_S128x256_S512x256_S640x256_d0) (shapeCast S640x256 b shapeCasts_S1x640x256_S640x256)) shapeCasts_S640x256_S1x1x640x256

theorem scB512_prev (q : Vec Ideal S1x128x128 .bf16) (kp : Vec Ideal S1x128x128 .bf16) (kc : Vec Ideal S1x512x128 .bf16) (b : Vec Ideal S1x640x256 .f32) (j : Fin 128) (hh : Fin 2) (r : Fin 128) :
    scB512 q kp kc b (ix4 (0 : Fin 1) (0 : Fin 1) (⟨j.val, by omega⟩ : Fin 640) (col hh r))
      = (∑ e : Fin 64, kp (ix3 (0 : Fin 1) j (lane hh e)) * q (ix3 (0 : Fin 1) r (lane hh e))) + b (ix3 (0 : Fin 1) (⟨j.val, by omega⟩ : Fin 640) (col hh r)) := by
  rw [← s128_apply]
  unfold scB512
  generalize s128 q kp = Z
  generalize s512 q kc = Z'
  pointwise

theorem scB512_cur (q : Vec Ideal S1x128x128 .bf16) (kp : Vec Ideal S1x128x128 .bf16) (kc : Vec Ideal S1x512x128 .bf16) (b : Vec Ideal S1x640x256 .f32) (j : Fin 512) (hh : Fin 2) (r : Fin 128) :
    scB512 q kp kc b (ix4 (0 : Fin 1) (0 : Fin 1) (⟨128 + j.val, by omega⟩ : Fin 640) (col hh r))
      = (∑ e : Fin 64, kc (ix3 (0 : Fin 1) j (lane hh e)) * q (ix3 (0 : Fin 1) r (lane hh e))) + b (ix3 (0 : Fin 1) (⟨128 + j.val, by omega⟩ : Fin 640) (col hh r)) := by
  rw [← s512_apply]
  unfold scB512
  generalize s128 q kp = Z
  generalize s512 q kc = Z'
  pointwise

/-- The outputs over a window of 128 keys of the tile before and 512 of the tile itself. -/
def outB512 (vc : Vec Ideal S1x128x512 .bf16) (vp : Vec Ideal S1x128x128 .bf16) (sc : Vec Ideal S1x1x640x256 .f32) : FVec Ideal S128x128 .bf16 :=
  fin (addf (w512 vc (extractStridedSlice S512x256 ![128, 0] (e640 sc) slices_S640x256_o128_0_S512x256))
    (w128 vp (extractStridedSlice S128x256 ![0, 0] (e640 sc) slices_S640x256_o0_0_S128x256)))

theorem outB512_apply (vc : Vec Ideal S1x128x512 .bf16) (vp : Vec Ideal S1x128x128 .bf16) (sc : Vec Ideal S1x1x640x256 .f32) (r l : Fin 128) (V : Fin 640 → EReal)
    (hp : ∀ j : Fin 128, vp (ix3 (0 : Fin 1) l j) = V ⟨j.val, by omega⟩) (hc : ∀ j : Fin 512, vc (ix3 (0 : Fin 1) l j) = V ⟨128 + j.val, by omega⟩) :
    outB512 vc vp sc (ix2 r l) = soft (fun j => sc (ix4 (0 : Fin 1) (0 : Fin 1) j (col (half l) r))) V := by
  have ec : ∀ (k : Fin 512) (c : Fin 256), extractStridedSlice S512x256 ![128, 0] (e640 sc) slices_S640x256_o128_0_S512x256 (ix2 k c) = e640 sc (ix2 (⟨128 + k.val, by omega⟩ : Fin 640) c) := by
    intro k c
    generalize e640 sc = Z
    pointwise
  have ep : ∀ (k : Fin 128) (c : Fin 256), extractStridedSlice S128x256 ![0, 0] (e640 sc) slices_S640x256_o0_0_S128x256 (ix2 k c) = e640 sc (ix2 (⟨k.val, by omega⟩ : Fin 640) c) := by
    intro k c
    generalize e640 sc = Z
    pointwise
  unfold outB512
  rw [fin_apply]
  simp only [addf_ideal, w512_val, w512_one, w128_val, w128_one, ec, ep, e640_apply, hp, hc]
  exact soft_split 640 128 512 rfl (fun j => sc (ix4 (0 : Fin 1) (0 : Fin 1) j (col (half l) r))) V

theorem tileB512 (q kp kc : Vec Ideal S1x512x1024 .bf16) (vp vc : Vec Ideal S1x1024x512 .bf16) (b : Vec Ideal S8x640x256 .f32) (oc p : ℕ) (ho : oc = 128 * p)
    (inb0 inb0' inb1 inb2 inb2' inb3) (x : S128x128.Idx) (R : Fin 512) (C : Fin 1024) (hR : R.val = 384 + (x 0).val) (hC : C.val = oc + (x 1).val) :
    outB512 (View.ld vc (Rect.unit (s := S1x1024x512) ![0, oc, 0] ![1, 128, 512] inb0))
      (View.ld vp (Rect.unit (s := S1x1024x512) ![0, oc, 384] ![1, 128, 128] inb0'))
      (scB512 (View.ld q (Rect.unit (s := S1x512x1024) ![0, 384, oc] ![1, 128, 128] inb1))
        (View.ld kp (Rect.unit (s := S1x512x1024) ![0, 384, oc] ![1, 128, 128] inb2'))
        (View.ld kc (Rect.unit (s := S1x512x1024) ![0, 0, oc] ![1, 512, 128] inb2))
        (View.ld b (Rect.unit (s := S8x640x256) ![p, 0, 0] ![1, 640, 256] inb3))) x = attT 0 q kp kc vp vc b R C := by
  obtain ⟨r, l, rfl⟩ : ∃ (r l : Fin 128), x = ix2 r l := ⟨x 0, x 1, eq_ix2 x⟩
  have hR : R.val = 384 + r.val := hR
  have hC : C.val = oc + l.val := hC
  rw [outB512_apply _ _ _ r l (fun j => valT vp vc C (winRow R j))]
  · have e0 : attT 0 q kp kc vp vc b R C = soft (scoreT q kp kc b R C) (fun j => valT vp vc C (winRow R j)) := by
      refine congrArg₂ (soft (n := 640)) (funext fun j => congrArg _ (Fin.ext ?_)) (funext fun j => congrArg (fun j => valT vp vc C (winRow R j)) (Fin.ext ?_)) <;>
      exact Nat.zero_add _
    rw [e0]
    refine congrArg (fun S => soft S _) (funext fun j => ?_)
    by_cases hj : j.val < 128
    · refine (scB512_prev _ _ _ _ ⟨j.val, hj⟩ (half l) r).trans (score_eq q kp kc b p 3 oc R C j r l (by omega) hC ho
        (fun c => View.ld q (Rect.unit (s := S1x512x1024) ![0, 384, oc] ![1, 128, 128] inb1) (ix3 (0 : Fin 1) r c))
        (fun c => View.ld kp (Rect.unit (s := S1x512x1024) ![0, 384, oc] ![1, 128, 128] inb2') (ix3 (0 : Fin 1) (⟨j.val, hj⟩ : Fin 128) c)) _ ?_ ?_ ?_)
      · exact fun c c' h => ld3 q inb1 0 r c 0 R c' rfl hR h
      · intro c c' h
        rw [keyT_prev kp kc (winRow R _) c' ⟨384 + j.val, by omega⟩ (by show 128 * (R.val / 128) + j.val = 384 + j.val; omega)]
        exact ld3 kp inb2' 0 _ c 0 _ c' rfl rfl h
      · exact fun p' c h0 h => ld3 b inb3 0 _ _ p' _ c (by show p'.val = p + 0; omega) (by show j.val = 0 + j.val; omega) (by show c.val = 0 + _; omega)
    · obtain ⟨i, rfl⟩ : ∃ i : Fin 512, j = ⟨128 + i.val, Nat.add_lt_add_left i.isLt 128⟩ := ⟨⟨j.val - 128, by omega⟩, Fin.ext (by show j.val = 128 + (j.val - 128); omega)⟩
      refine (scB512_cur _ _ _ _ i (half l) r).trans (score_eq q kp kc b p 3 oc R C _ r l (by omega) hC ho
        (fun c => View.ld q (Rect.unit (s := S1x512x1024) ![0, 384, oc] ![1, 128, 128] inb1) (ix3 (0 : Fin 1) r c))
        (fun c => View.ld kc (Rect.unit (s := S1x512x1024) ![0, 0, oc] ![1, 512, 128] inb2) (ix3 (0 : Fin 1) i c)) _ ?_ ?_ ?_)
      · exact fun c c' h => ld3 q inb1 0 r c 0 R c' rfl hR h
      · intro c c' h
        rw [keyT_cur kp kc (winRow R _) c' ⟨i.val, by omega⟩ (by show 128 * (R.val / 128) + (128 + i.val) = 512 + i.val; omega)]
        exact ld3 kc inb2 0 i c 0 _ c' rfl (by show i.val = 0 + i.val; omega) h
      · exact fun p' c h0 h => ld3 b inb3 0 _ _ p' _ c (by show p'.val = p + 0; omega) (by show 128 + i.val = 0 + (128 + i.val); omega) (by show c.val = 0 + _; omega)
  · intro j
    refine Eq.trans ?_ (valT_prev vp vc (winRow R _) C ⟨384 + j.val, by omega⟩ (by show 128 * (R.val / 128) + j.val = 384 + j.val; omega)).symm
    exact ld3 vp inb0' 0 l j 0 C _ rfl hC rfl
  · intro j
    refine Eq.trans ?_ (valT_cur vp vc (winRow R _) C ⟨j.val, by omega⟩ (by show 128 * (R.val / 128) + (128 + j.val) = 512 + j.val; omega)).symm
    exact ld3 vc inb0 0 l j 0 C _ rfl hC (by show j.val = 0 + j.val; omega)

end Cert.Attn

end

end
-- ==== Proof.Attn.PointA.lean ====
/- What the kernel's body leaves for a tile, the first of a sequence. -/
module

public import proofs.«01_k».proof.Proof.Attn.Block
public import proofs.«01_k».proof.Proof.Gen.Kernel4Ideal.Frame

@[expose] public section

namespace Cert.Attn

open Idealize.ShloMosaic Idealize.ShloMosaic.TcCoe Idealize.SL.Sem
open Cert.Kernel4Ideal Cert.Kernel4Ideal.Gen

set_option maxHeartbeats 4000000 in
theorem outA (c i arg2 harg2 arg3 harg3 arg4 harg4 arg5 harg5 arg6 harg6 arg7 harg7 arg8 harg8 arg9 harg9 arg10 harg10 arg11 harg11 arg12 harg12 hc0 hc1 x0 x1 x2 x3 x4 x5 x6 x7) (R : Fin 512) (C : Fin 1024) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 (0 : Fin 1) R C)
      = x0 (ix3 (0 : Fin 1) R C) + ∑ f : Fin 1024, attT (512 - 128 * (R.val / 128)) x1 x2 x3 x4 x5 x6 R f * x7 (ix2 f C) := by
  frame_out
  simp (config := { decide := true }) only [readCov_skip, readCov_hit]
  refine pay2_at _ _ _ (fun R f => attT (512 - 128 * (R.val / 128)) x1 x2 x3 x4 x5 x6 R f) R C ?_
  intro r f
  rw [View.readCov_eq_canon']
  show View.canon _ _ = _
  canon_tiles x h
  case piece0 =>
    have e0 : 0 + 1 * r.val = 384 + (x 0).val := h0
    have e1 : 0 + 1 * f.val = 896 + (x 1).val := h1
    have key := tileA512 x1 x2 x3 x4 x5 x6 896 7 rfl inb_S1x1024x512_S1x128x512_0_896_0 inb_S1x512x1024_S1x128x128_0_384_896 inb_S1x512x1024_S1x512x128_0_0_896 inb_S8x640x256_S1x512x256_7_128_0 x r f (by omega) (by omega)
    exact Eq.trans (congrFun (by rfl) x) key
  case piece1 =>
    have e0 : 0 + 1 * r.val = 384 + (x 0).val := h0
    have e1 : 0 + 1 * f.val = 768 + (x 1).val := h1
    have key := tileA512 x1 x2 x3 x4 x5 x6 768 6 rfl inb_S1x1024x512_S1x128x512_0_768_0 inb_S1x512x1024_S1x128x128_0_384_768 inb_S1x512x1024_S1x512x128_0_0_768 inb_S8x640x256_S1x512x256_6_128_0 x r f (by omega) (by omega)
    exact Eq.trans (congrFun (by rfl) x) key
  case piece2 =>
    have e0 : 0 + 1 * r.val = 384 + (x 0).val := h0
    have e1 : 0 + 1 * f.val = 640 + (x 1).val := h1
    have key := tileA512 x1 x2 x3 x4 x5 x6 640 5 rfl inb_S1x1024x512_S1x128x512_0_640_0 inb_S1x512x1024_S1x128x128_0_384_640 inb_S1x512x1024_S1x512x128_0_0_640 inb_S8x640x256_S1x512x256_5_128_0 x r f (by omega) (by omega)
    exact Eq.trans (congrFun (by rfl) x) key
  case piece3 =>
    have e0 : 0 + 1 * r.val = 384 + (x 0).val := h0
    have e1 : 0 + 1 * f.val = 512 + (x 1).val := h1
    have key := tileA512 x1 x2 x3 x4 x5 x6 512 4 rfl inb_S1x1024x512_S1x128x512_0_512_0 inb_S1x512x1024_S1x128x128_0_384_512 inb_S1x512x1024_S1x512x128_0_0_512 inb_S8x640x256_S1x512x256_4_128_0 x r f (by omega) (by omega)
    exact Eq.trans (congrFun (by rfl) x) key
  case piece4 =>
    have e0 : 0 + 1 * r.val = 384 + (x 0).val := h0
    have e1 : 0 + 1 * f.val = 384 + (x 1).val := h1
    have key := tileA512 x1 x2 x3 x4 x5 x6 384 3 rfl inb_S1x1024x512_S1x128x512_0_384_0 inb_S1x512x1024_S1x128x128_0_384_384 inb_S1x512x1024_S1x512x128_0_0_384 inb_S8x640x256_S1x512x256_3_128_0 x r f (by omega) (by omega)
    exact Eq.trans (congrFun (by rfl) x) key
  case piece5 =>
    have e0 : 0 + 1 * r.val = 384 + (x 0).val := h0
    have e1 : 0 + 1 * f.val = 256 + (x 1).val := h1
    have key := tileA512 x1 x2 x3 x4 x5 x6 256 2 rfl inb_S1x1024x512_S1x128x512_0_256_0 inb_S1x512x1024_S1x128x128_0_384_256 inb_S1x512x1024_S1x512x128_0_0_256 inb_S8x640x256_S1x512x256_2_128_0 x r f (by omega) (by omega)
    exact Eq.trans (congrFun (by rfl) x) key
  case piece6 =>
    have e0 : 0 + 1 * r.val = 384 + (x 0).val := h0
    have e1 : 0 + 1 * f.val = 128 + (x 1).val := h1
    have key := tileA512 x1 x2 x3 x4 x5 x6 128 1 rfl inb_S1x1024x512_S1x128x512_0_128_0 inb_S1x512x1024_S1x128x128_0_384_128 inb_S1x512x1024_S1x512x128_0_0_128 inb_S8x640x256_S1x512x256_1_128_0 x r f (by omega) (by omega)
    exact Eq.trans (congrFun (by rfl) x) key
  case piece7 =>
    have e0 : 0 + 1 * r.val = 384 + (x 0).val := h0
    have e1 : 0 + 1 * f.val = (x 1).val := h1
    have key := tileA512 x1 x2 x3 x4 x5 x6 0 0 rfl inb_S1x1024x512_S1x128x512_0_0_0 inb_S1x512x1024_S1x128x128_0_384_0 inb_S1x512x1024_S1x512x128_0_0_0 inb_S8x640x256_S1x512x256_0_128_0 x r f (by omega) (by omega)
    exact Eq.trans (congrFun (by rfl) x) key
  case piece8 =>
    have e0 : 0 + 1 * r.val = 256 + (x 0).val := h0
    have e1 : 0 + 1 * f.val = 896 + (x 1).val := h1
    have key := tileA384 x1 x2 x3 x4 x5 x6 896 7 rfl inb_S1x1024x512_S1x128x384_0_896_0 inb_S1x512x1024_S1x128x128_0_256_896 inb_S1x512x1024_S1x384x128_0_0_896 inb_S8x640x256_S1x384x256_7_256_0 x r f (by omega) (by omega)
    exact Eq.trans (congrFun (by rfl) x) key
  case piece9 =>
    have e0 : 0 + 1 * r.val = 256 + (x 0).val := h0
    have e1 : 0 + 1 * f.val = 768 + (x 1).val := h1
    have key := tileA384 x1 x2 x3 x4 x5 x6 768 6 rfl inb_S1x1024x512_S1x128x384_0_768_0 inb_S1x512x1024_S1x128x128_0_256_768 inb_S1x512x1024_S1x384x128_0_0_768 inb_S8x640x256_S1x384x256_6_256_0 x r f (by omega) (by omega)
    exact Eq.trans (congrFun (by rfl) x) key
  case piece10 =>
    have e0 : 0 + 1 * r.val = 256 + (x 0).val := h0
    have e1 : 0 + 1 * f.val = 640 + (x 1).val := h1
    have key := tileA384 x1 x2 x3 x4 x5 x6 640 5 rfl inb_S1x1024x512_S1x128x384_0_640_0 inb_S1x512x1024_S1x128x128_0_256_640 inb_S1x512x1024_S1x384x128_0_0_640 inb_S8x640x256_S1x384x256_5_256_0 x r f (by omega) (by omega)
    exact Eq.trans (congrFun (by rfl) x) key
  case piece11 =>
    have e0 : 0 + 1 * r.val = 256 + (x 0).val := h0
    have e1 : 0 + 1 * f.val = 512 + (x 1).val := h1
    have key := tileA384 x1 x2 x3 x4 x5 x6 512 4 rfl inb_S1x1024x512_S1x128x384_0_512_0 inb_S1x512x1024_S1x128x128_0_256_512 inb_S1x512x1024_S1x384x128_0_0_512 inb_S8x640x256_S1x384x256_4_256_0 x r f (by omega) (by omega)
    exact Eq.trans (congrFun (by rfl) x) key
  case piece12 =>
    have e0 : 0 + 1 * r.val = 256 + (x 0).val := h0
    have e1 : 0 + 1 * f.val = 384 + (x 1).val := h1
    have key := tileA384 x1 x2 x3 x4 x5 x6 384 3 rfl inb_S1x1024x512_S1x128x384_0_384_0 inb_S1x512x1024_S1x128x128_0_256_384 inb_S1x512x1024_S1x384x128_0_0_384 inb_S8x640x256_S1x384x256_3_256_0 x r f (by omega) (by omega)
    exact Eq.trans (congrFun (by rfl) x) key
  case piece13 =>
    have e0 : 0 + 1 * r.val = 256 + (x 0).val := h0
    have e1 : 0 + 1 * f.val = 256 + (x 1).val := h1
    have key := tileA384 x1 x2 x3 x4 x5 x6 256 2 rfl inb_S1x1024x512_S1x128x384_0_256_0 inb_S1x512x1024_S1x128x128_0_256_256 inb_S1x512x1024_S1x384x128_0_0_256 inb_S8x640x256_S1x384x256_2_256_0 x r f (by omega) (by omega)
    exact Eq.trans (congrFun (by rfl) x) key
  case piece14 =>
    have e0 : 0 + 1 * r.val = 256 + (x 0).val := h0
    have e1 : 0 + 1 * f.val = 128 + (x 1).val := h1
    have key := tileA384 x1 x2 x3 x4 x5 x6 128 1 rfl inb_S1x1024x512_S1x128x384_0_128_0 inb_S1x512x1024_S1x128x128_0_256_128 inb_S1x512x1024_S1x384x128_0_0_128 inb_S8x640x256_S1x384x256_1_256_0 x r f (by omega) (by omega)
    exact Eq.trans (congrFun (by rfl) x) key
  case piece15 =>
    have e0 : 0 + 1 * r.val = 256 + (x 0).val := h0
    have e1 : 0 + 1 * f.val = (x 1).val := h1
    have key := tileA384 x1 x2 x3 x4 x5 x6 0 0 rfl inb_S1x1024x512_S1x128x384_0_0_0 inb_S1x512x1024_S1x128x128_0_256_0 inb_S1x512x1024_S1x384x128_0_0_0 inb_S8x640x256_S1x384x256_0_256_0 x r f (by omega) (by omega)
    exact Eq.trans (congrFun (by rfl) x) key
  case piece16 =>
    have e0 : 0 + 1 * r.val = 128 + (x 0).val := h0
    have e1 : 0 + 1 * f.val = 896 + (x 1).val := h1
    have key := tileA256 x1 x2 x3 x4 x5 x6 896 7 rfl inb_S1x1024x512_S1x128x256_0_896_0 inb_S1x512x1024_S1x128x128_0_128_896 inb_S1x512x1024_S1x256x128_0_0_896 inb_S8x640x256_S1x256x256_7_384_0 x r f (by omega) (by omega)
    exact Eq.trans (congrFun (by rfl) x) key
  case piece17 =>
    have e0 : 0 + 1 * r.val = 128 + (x 0).val := h0
    have e1 : 0 + 1 * f.val = 768 + (x 1).val := h1
    have key := tileA256 x1 x2 x3 x4 x5 x6 768 6 rfl inb_S1x1024x512_S1x128x256_0_768_0 inb_S1x512x1024_S1x128x128_0_128_768 inb_S1x512x1024_S1x256x128_0_0_768 inb_S8x640x256_S1x256x256_6_384_0 x r f (by omega) (by omega)
    exact Eq.trans (congrFun (by rfl) x) key
  case piece18 =>
    have e0 : 0 + 1 * r.val = 128 + (x 0).val := h0
    have e1 : 0 + 1 * f.val = 640 + (x 1).val := h1
    have key := tileA256 x1 x2 x3 x4 x5 x6 640 5 rfl inb_S1x1024x512_S1x128x256_0_640_0 inb_S1x512x1024_S1x128x128_0_128_640 inb_S1x512x1024_S1x256x128_0_0_640 inb_S8x640x256_S1x256x256_5_384_0 x r f (by omega) (by omega)
    exact Eq.trans (congrFun (by rfl) x) key
  case piece19 =>
    have e0 : 0 + 1 * r.val = 128 + (x 0).val := h0
    have e1 : 0 + 1 * f.val = 512 + (x 1).val := h1
    have key := tileA256 x1 x2 x3 x4 x5 x6 512 4 rfl inb_S1x1024x512_S1x128x256_0_512_0 inb_S1x512x1024_S1x128x128_0_128_512 inb_S1x512x1024_S1x256x128_0_0_512 inb_S8x640x256_S1x256x256_4_384_0 x r f (by omega) (by omega)
    exact Eq.trans (congrFun (by rfl) x) key
  case piece20 =>
    have e0 : 0 + 1 * r.val = 128 + (x 0).val := h0
    have e1 : 0 + 1 * f.val = 384 + (x 1).val := h1
    have key := tileA256 x1 x2 x3 x4 x5 x6 384 3 rfl inb_S1x1024x512_S1x128x256_0_384_0 inb_S1x512x1024_S1x128x128_0_128_384 inb_S1x512x1024_S1x256x128_0_0_384 inb_S8x640x256_S1x256x256_3_384_0 x r f (by omega) (by omega)
    exact Eq.trans (congrFun (by rfl) x) key
  case piece21 =>
    have e0 : 0 + 1 * r.val = 128 + (x 0).val := h0
    have e1 : 0 + 1 * f.val = 256 + (x 1).val := h1
    have key := tileA256 x1 x2 x3 x4 x5 x6 256 2 rfl inb_S1x1024x512_S1x128x256_0_256_0 inb_S1x512x1024_S1x128x128_0_128_256 inb_S1x512x1024_S1x256x128_0_0_256 inb_S8x640x256_S1x256x256_2_384_0 x r f (by omega) (by omega)
    exact Eq.trans (congrFun (by rfl) x) key
  case piece22 =>
    have e0 : 0 + 1 * r.val = 128 + (x 0).val := h0
    have e1 : 0 + 1 * f.val = 128 + (x 1).val := h1
    have key := tileA256 x1 x2 x3 x4 x5 x6 128 1 rfl inb_S1x1024x512_S1x128x256_0_128_0 inb_S1x512x1024_S1x128x128_0_128_128 inb_S1x512x1024_S1x256x128_0_0_128 inb_S8x640x256_S1x256x256_1_384_0 x r f (by omega) (by omega)
    exact Eq.trans (congrFun (by rfl) x) key
  case piece23 =>
    have e0 : 0 + 1 * r.val = 128 + (x 0).val := h0
    have e1 : 0 + 1 * f.val = (x 1).val := h1
    have key := tileA256 x1 x2 x3 x4 x5 x6 0 0 rfl inb_S1x1024x512_S1x128x256_0_0_0 inb_S1x512x1024_S1x128x128_0_128_0 inb_S1x512x1024_S1x256x128_0_0_0 inb_S8x640x256_S1x256x256_0_384_0 x r f (by omega) (by omega)
    exact Eq.trans (congrFun (by rfl) x) key
  case piece24 =>
    have e0 : 0 + 1 * r.val = (x 0).val := h0
    have e1 : 0 + 1 * f.val = 896 + (x 1).val := h1
    have key := tileA128 x1 x2 x3 x4 x5 x6 896 7 rfl inb_S1x1024x512_S1x128x128_0_896_0 inb_S1x512x1024_S1x128x128_0_0_896 inb_S1x512x1024_S1x128x128_0_0_896 inb_S8x640x256_S1x128x256_7_512_0 x r f (by omega) (by omega)
    exact Eq.trans (congrFun (by rfl) x) key
  case piece25 =>
    have e0 : 0 + 1 * r.val = (x 0).val := h0
    have e1 : 0 + 1 * f.val = 768 + (x 1).val := h1
    have key := tileA128 x1 x2 x3 x4 x5 x6 768 6 rfl inb_S1x1024x512_S1x128x128_0_768_0 inb_S1x512x1024_S1x128x128_0_0_768 inb_S1x512x1024_S1x128x128_0_0_768 inb_S8x640x256_S1x128x256_6_512_0 x r f (by omega) (by omega)
    exact Eq.trans (congrFun (by rfl) x) key
  case piece26 =>
    have e0 : 0 + 1 * r.val = (x 0).val := h0
    have e1 : 0 + 1 * f.val = 640 + (x 1).val := h1
    have key := tileA128 x1 x2 x3 x4 x5 x6 640 5 rfl inb_S1x1024x512_S1x128x128_0_640_0 inb_S1x512x1024_S1x128x128_0_0_640 inb_S1x512x1024_S1x128x128_0_0_640 inb_S8x640x256_S1x128x256_5_512_0 x r f (by omega) (by omega)
    exact Eq.trans (congrFun (by rfl) x) key
  case piece27 =>
    have e0 : 0 + 1 * r.val = (x 0).val := h0
    have e1 : 0 + 1 * f.val = 512 + (x 1).val := h1
    have key := tileA128 x1 x2 x3 x4 x5 x6 512 4 rfl inb_S1x1024x512_S1x128x128_0_512_0 inb_S1x512x1024_S1x128x128_0_0_512 inb_S1x512x1024_S1x128x128_0_0_512 inb_S8x640x256_S1x128x256_4_512_0 x r f (by omega) (by omega)
    exact Eq.trans (congrFun (by rfl) x) key
  case piece28 =>
    have e0 : 0 + 1 * r.val = (x 0).val := h0
    have e1 : 0 + 1 * f.val = 384 + (x 1).val := h1
    have key := tileA128 x1 x2 x3 x4 x5 x6 384 3 rfl inb_S1x1024x512_S1x128x128_0_384_0 inb_S1x512x1024_S1x128x128_0_0_384 inb_S1x512x1024_S1x128x128_0_0_384 inb_S8x640x256_S1x128x256_3_512_0 x r f (by omega) (by omega)
    exact Eq.trans (congrFun (by rfl) x) key
  case piece29 =>
    have e0 : 0 + 1 * r.val = (x 0).val := h0
    have e1 : 0 + 1 * f.val = 256 + (x 1).val := h1
    have key := tileA128 x1 x2 x3 x4 x5 x6 256 2 rfl inb_S1x1024x512_S1x128x128_0_256_0 inb_S1x512x1024_S1x128x128_0_0_256 inb_S1x512x1024_S1x128x128_0_0_256 inb_S8x640x256_S1x128x256_2_512_0 x r f (by omega) (by omega)
    exact Eq.trans (congrFun (by rfl) x) key
  case piece30 =>
    have e0 : 0 + 1 * r.val = (x 0).val := h0
    have e1 : 0 + 1 * f.val = 128 + (x 1).val := h1
    have key := tileA128 x1 x2 x3 x4 x5 x6 128 1 rfl inb_S1x1024x512_S1x128x128_0_128_0 inb_S1x512x1024_S1x128x128_0_0_128 inb_S1x512x1024_S1x128x128_0_0_128 inb_S8x640x256_S1x128x256_1_512_0 x r f (by omega) (by omega)
    exact Eq.trans (congrFun (by rfl) x) key
  case piece31 =>
    have e0 : 0 + 1 * r.val = (x 0).val := h0
    have e1 : 0 + 1 * f.val = (x 1).val := h1
    have key := tileA128 x1 x2 x3 x4 x5 x6 0 0 rfl inb_S1x1024x512_S1x128x128_0_0_0 inb_S1x512x1024_S1x128x128_0_0_0 inb_S1x512x1024_S1x128x128_0_0_0 inb_S8x640x256_S1x128x256_0_512_0 x r f (by omega) (by omega)
    exact Eq.trans (congrFun (by rfl) x) key

end Cert.Attn

end
-- ==== Proof.Attn.PointB.lean ====
/- What the kernel's body leaves for a tile, not the first of a sequence. -/
module

public import proofs.«01_k».proof.Proof.Attn.Block
public import proofs.«01_k».proof.Proof.Gen.Kernel4Ideal.Frame

@[expose] public section

namespace Cert.Attn

open Idealize.ShloMosaic Idealize.ShloMosaic.TcCoe Idealize.SL.Sem
open Cert.Kernel4Ideal Cert.Kernel4Ideal.Gen

set_option maxHeartbeats 4000000 in
theorem outB (c i arg2 harg2 arg3 harg3 arg4 harg4 arg5 harg5 arg6 harg6 arg7 harg7 arg8 harg8 arg9 harg9 arg10 harg10 arg11 harg11 arg12 harg12 hc0 hc1 x0 x1 x2 x3 x4 x5 x6 x7) (R : Fin 512) (C : Fin 1024) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 (0 : Fin 1) R C)
      = x0 (ix3 (0 : Fin 1) R C) + ∑ f : Fin 1024, attT 0 x1 x2 x3 x4 x5 x6 R f * x7 (ix2 f C) := by
  frame_out
  simp (config := { decide := true }) only [readCov_skip, readCov_hit]
  refine pay2_at _ _ _ (fun R f => attT 0 x1 x2 x3 x4 x5 x6 R f) R C ?_
  intro r f
  rw [View.readCov_eq_canon']
  show View.canon _ _ = _
  canon_tiles x h
  case piece0 =>
    have e0 : 0 + 1 * r.val = 384 + (x 0).val := h0
    have e1 : 0 + 1 * f.val = 896 + (x 1).val := h1
    have key := tileB512 x1 x2 x3 x4 x5 x6 896 7 rfl inb_S1x1024x512_S1x128x512_0_896_0 inb_S1x1024x512_S1x128x128_0_896_384 inb_S1x512x1024_S1x128x128_0_384_896 inb_S1x512x1024_S1x512x128_0_0_896 inb_S1x512x1024_S1x128x128_0_384_896 inb_S8x640x256_S1x640x256_7_0_0 x r f (by omega) (by omega)
    exact Eq.trans (congrFun (by rfl) x) key
  case piece1 =>
    have e0 : 0 + 1 * r.val = 384 + (x 0).val := h0
    have e1 : 0 + 1 * f.val = 768 + (x 1).val := h1
    have key := tileB512 x1 x2 x3 x4 x5 x6 768 6 rfl inb_S1x1024x512_S1x128x512_0_768_0 inb_S1x1024x512_S1x128x128_0_768_384 inb_S1x512x1024_S1x128x128_0_384_768 inb_S1x512x1024_S1x512x128_0_0_768 inb_S1x512x1024_S1x128x128_0_384_768 inb_S8x640x256_S1x640x256_6_0_0 x r f (by omega) (by omega)
    exact Eq.trans (congrFun (by rfl) x) key
  case piece2 =>
    have e0 : 0 + 1 * r.val = 384 + (x 0).val := h0
    have e1 : 0 + 1 * f.val = 640 + (x 1).val := h1
    have key := tileB512 x1 x2 x3 x4 x5 x6 640 5 rfl inb_S1x1024x512_S1x128x512_0_640_0 inb_S1x1024x512_S1x128x128_0_640_384 inb_S1x512x1024_S1x128x128_0_384_640 inb_S1x512x1024_S1x512x128_0_0_640 inb_S1x512x1024_S1x128x128_0_384_640 inb_S8x640x256_S1x640x256_5_0_0 x r f (by omega) (by omega)
    exact Eq.trans (congrFun (by rfl) x) key
  case piece3 =>
    have e0 : 0 + 1 * r.val = 384 + (x 0).val := h0
    have e1 : 0 + 1 * f.val = 512 + (x 1).val := h1
    have key := tileB512 x1 x2 x3 x4 x5 x6 512 4 rfl inb_S1x1024x512_S1x128x512_0_512_0 inb_S1x1024x512_S1x128x128_0_512_384 inb_S1x512x1024_S1x128x128_0_384_512 inb_S1x512x1024_S1x512x128_0_0_512 inb_S1x512x1024_S1x128x128_0_384_512 inb_S8x640x256_S1x640x256_4_0_0 x r f (by omega) (by omega)
    exact Eq.trans (congrFun (by rfl) x) key
  case piece4 =>
    have e0 : 0 + 1 * r.val = 384 + (x 0).val := h0
    have e1 : 0 + 1 * f.val = 384 + (x 1).val := h1
    have key := tileB512 x1 x2 x3 x4 x5 x6 384 3 rfl inb_S1x1024x512_S1x128x512_0_384_0 inb_S1x1024x512_S1x128x128_0_384_384 inb_S1x512x1024_S1x128x128_0_384_384 inb_S1x512x1024_S1x512x128_0_0_384 inb_S1x512x1024_S1x128x128_0_384_384 inb_S8x640x256_S1x640x256_3_0_0 x r f (by omega) (by omega)
    exact Eq.trans (congrFun (by rfl) x) key
  case piece5 =>
    have e0 : 0 + 1 * r.val = 384 + (x 0).val := h0
    have e1 : 0 + 1 * f.val = 256 + (x 1).val := h1
    have key := tileB512 x1 x2 x3 x4 x5 x6 256 2 rfl inb_S1x1024x512_S1x128x512_0_256_0 inb_S1x1024x512_S1x128x128_0_256_384 inb_S1x512x1024_S1x128x128_0_384_256 inb_S1x512x1024_S1x512x128_0_0_256 inb_S1x512x1024_S1x128x128_0_384_256 inb_S8x640x256_S1x640x256_2_0_0 x r f (by omega) (by omega)
    exact Eq.trans (congrFun (by rfl) x) key
  case piece6 =>
    have e0 : 0 + 1 * r.val = 384 + (x 0).val := h0
    have e1 : 0 + 1 * f.val = 128 + (x 1).val := h1
    have key := tileB512 x1 x2 x3 x4 x5 x6 128 1 rfl inb_S1x1024x512_S1x128x512_0_128_0 inb_S1x1024x512_S1x128x128_0_128_384 inb_S1x512x1024_S1x128x128_0_384_128 inb_S1x512x1024_S1x512x128_0_0_128 inb_S1x512x1024_S1x128x128_0_384_128 inb_S8x640x256_S1x640x256_1_0_0 x r f (by omega) (by omega)
    exact Eq.trans (congrFun (by rfl) x) key
  case piece7 =>
    have e0 : 0 + 1 * r.val = 384 + (x 0).val := h0
    have e1 : 0 + 1 * f.val = (x 1).val := h1
    have key := tileB512 x1 x2 x3 x4 x5 x6 0 0 rfl inb_S1x1024x512_S1x128x512_0_0_0 inb_S1x1024x512_S1x128x128_0_0_384 inb_S1x512x1024_S1x128x128_0_384_0 inb_S1x512x1024_S1x512x128_0_0_0 inb_S1x512x1024_S1x128x128_0_384_0 inb_S8x640x256_S1x640x256_0_0_0 x r f (by omega) (by omega)
    exact Eq.trans (congrFun (by rfl) x) key
  case piece8 =>
    have e0 : 0 + 1 * r.val = 256 + (x 0).val := h0
    have e1 : 0 + 1 * f.val = 896 + (x 1).val := h1
    have key := tileB384 x1 x2 x3 x4 x5 x6 896 7 rfl inb_S1x1024x512_S1x128x384_0_896_0 inb_S1x1024x512_S1x128x256_0_896_256 inb_S1x512x1024_S1x128x128_0_256_896 inb_S1x512x1024_S1x384x128_0_0_896 inb_S1x512x1024_S1x256x128_0_256_896 inb_S8x640x256_S1x640x256_7_0_0 x r f (by omega) (by omega)
    exact Eq.trans (congrFun (by rfl) x) key
  case piece9 =>
    have e0 : 0 + 1 * r.val = 256 + (x 0).val := h0
    have e1 : 0 + 1 * f.val = 768 + (x 1).val := h1
    have key := tileB384 x1 x2 x3 x4 x5 x6 768 6 rfl inb_S1x1024x512_S1x128x384_0_768_0 inb_S1x1024x512_S1x128x256_0_768_256 inb_S1x512x1024_S1x128x128_0_256_768 inb_S1x512x1024_S1x384x128_0_0_768 inb_S1x512x1024_S1x256x128_0_256_768 inb_S8x640x256_S1x640x256_6_0_0 x r f (by omega) (by omega)
    exact Eq.trans (congrFun (by rfl) x) key
  case piece10 =>
    have e0 : 0 + 1 * r.val = 256 + (x 0).val := h0
    have e1 : 0 + 1 * f.val = 640 + (x 1).val := h1
    have key := tileB384 x1 x2 x3 x4 x5 x6 640 5 rfl inb_S1x1024x512_S1x128x384_0_640_0 inb_S1x1024x512_S1x128x256_0_640_256 inb_S1x512x1024_S1x128x128_0_256_640 inb_S1x512x1024_S1x384x128_0_0_640 inb_S1x512x1024_S1x256x128_0_256_640 inb_S8x640x256_S1x640x256_5_0_0 x r f (by omega) (by omega)
    exact Eq.trans (congrFun (by rfl) x) key
  case piece11 =>
    have e0 : 0 + 1 * r.val = 256 + (x 0).val := h0
    have e1 : 0 + 1 * f.val = 512 + (x 1).val := h1
    have key := tileB384 x1 x2 x3 x4 x5 x6 512 4 rfl inb_S1x1024x512_S1x128x384_0_512_0 inb_S1x1024x512_S1x128x256_0_512_256 inb_S1x512x1024_S1x128x128_0_256_512 inb_S1x512x1024_S1x384x128_0_0_512 inb_S1x512x1024_S1x256x128_0_256_512 inb_S8x640x256_S1x640x256_4_0_0 x r f (by omega) (by omega)
    exact Eq.trans (congrFun (by rfl) x) key
  case piece12 =>
    have e0 : 0 + 1 * r.val = 256 + (x 0).val := h0
    have e1 : 0 + 1 * f.val = 384 + (x 1).val := h1
    have key := tileB384 x1 x2 x3 x4 x5 x6 384 3 rfl inb_S1x1024x512_S1x128x384_0_384_0 inb_S1x1024x512_S1x128x256_0_384_256 inb_S1x512x1024_S1x128x128_0_256_384 inb_S1x512x1024_S1x384x128_0_0_384 inb_S1x512x1024_S1x256x128_0_256_384 inb_S8x640x256_S1x640x256_3_0_0 x r f (by omega) (by omega)
    exact Eq.trans (congrFun (by rfl) x) key
  case piece13 =>
    have e0 : 0 + 1 * r.val = 256 + (x 0).val := h0
    have e1 : 0 + 1 * f.val = 256 + (x 1).val := h1
    have key := tileB384 x1 x2 x3 x4 x5 x6 256 2 rfl inb_S1x1024x512_S1x128x384_0_256_0 inb_S1x1024x512_S1x128x256_0_256_256 inb_S1x512x1024_S1x128x128_0_256_256 inb_S1x512x1024_S1x384x128_0_0_256 inb_S1x512x1024_S1x256x128_0_256_256 inb_S8x640x256_S1x640x256_2_0_0 x r f (by omega) (by omega)
    exact Eq.trans (congrFun (by rfl) x) key
  case piece14 =>
    have e0 : 0 + 1 * r.val = 256 + (x 0).val := h0
    have e1 : 0 + 1 * f.val = 128 + (x 1).val := h1
    have key := tileB384 x1 x2 x3 x4 x5 x6 128 1 rfl inb_S1x1024x512_S1x128x384_0_128_0 inb_S1x1024x512_S1x128x256_0_128_256 inb_S1x512x1024_S1x128x128_0_256_128 inb_S1x512x1024_S1x384x128_0_0_128 inb_S1x512x1024_S1x256x128_0_256_128 inb_S8x640x256_S1x640x256_1_0_0 x r f (by omega) (by omega)
    exact Eq.trans (congrFun (by rfl) x) key
  case piece15 =>
    have e0 : 0 + 1 * r.val = 256 + (x 0).val := h0
    have e1 : 0 + 1 * f.val = (x 1).val := h1
    have key := tileB384 x1 x2 x3 x4 x5 x6 0 0 rfl inb_S1x1024x512_S1x128x384_0_0_0 inb_S1x1024x512_S1x128x256_0_0_256 inb_S1x512x1024_S1x128x128_0_256_0 inb_S1x512x1024_S1x384x128_0_0_0 inb_S1x512x1024_S1x256x128_0_256_0 inb_S8x640x256_S1x640x256_0_0_0 x r f (by omega) (by omega)
    exact Eq.trans (congrFun (by rfl) x) key
  case piece16 =>
    have e0 : 0 + 1 * r.val = 128 + (x 0).val := h0
    have e1 : 0 + 1 * f.val = 896 + (x 1).val := h1
    have key := tileB256 x1 x2 x3 x4 x5 x6 896 7 rfl inb_S1x1024x512_S1x128x256_0_896_0 inb_S1x1024x512_S1x128x384_0_896_128 inb_S1x512x1024_S1x128x128_0_128_896 inb_S1x512x1024_S1x256x128_0_0_896 inb_S1x512x1024_S1x384x128_0_128_896 inb_S8x640x256_S1x640x256_7_0_0 x r f (by omega) (by omega)
    exact Eq.trans (congrFun (by rfl) x) key
  case piece17 =>
    have e0 : 0 + 1 * r.val = 128 + (x 0).val := h0
    have e1 : 0 + 1 * f.val = 768 + (x 1).val := h1
    have key := tileB256 x1 x2 x3 x4 x5 x6 768 6 rfl inb_S1x1024x512_S1x128x256_0_768_0 inb_S1x1024x512_S1x128x384_0_768_128 inb_S1x512x1024_S1x128x128_0_128_768 inb_S1x512x1024_S1x256x128_0_0_768 inb_S1x512x1024_S1x384x128_0_128_768 inb_S8x640x256_S1x640x256_6_0_0 x r f (by omega) (by omega)
    exact Eq.trans (congrFun (by rfl) x) key
  case piece18 =>
    have e0 : 0 + 1 * r.val = 128 + (x 0).val := h0
    have e1 : 0 + 1 * f.val = 640 + (x 1).val := h1
    have key := tileB256 x1 x2 x3 x4 x5 x6 640 5 rfl inb_S1x1024x512_S1x128x256_0_640_0 inb_S1x1024x512_S1x128x384_0_640_128 inb_S1x512x1024_S1x128x128_0_128_640 inb_S1x512x1024_S1x256x128_0_0_640 inb_S1x512x1024_S1x384x128_0_128_640 inb_S8x640x256_S1x640x256_5_0_0 x r f (by omega) (by omega)
    exact Eq.trans (congrFun (by rfl) x) key
  case piece19 =>
    have e0 : 0 + 1 * r.val = 128 + (x 0).val := h0
    have e1 : 0 + 1 * f.val = 512 + (x 1).val := h1
    have key := tileB256 x1 x2 x3 x4 x5 x6 512 4 rfl inb_S1x1024x512_S1x128x256_0_512_0 inb_S1x1024x512_S1x128x384_0_512_128 inb_S1x512x1024_S1x128x128_0_128_512 inb_S1x512x1024_S1x256x128_0_0_512 inb_S1x512x1024_S1x384x128_0_128_512 inb_S8x640x256_S1x640x256_4_0_0 x r f (by omega) (by omega)
    exact Eq.trans (congrFun (by rfl) x) key
  case piece20 =>
    have e0 : 0 + 1 * r.val = 128 + (x 0).val := h0
    have e1 : 0 + 1 * f.val = 384 + (x 1).val := h1
    have key := tileB256 x1 x2 x3 x4 x5 x6 384 3 rfl inb_S1x1024x512_S1x128x256_0_384_0 inb_S1x1024x512_S1x128x384_0_384_128 inb_S1x512x1024_S1x128x128_0_128_384 inb_S1x512x1024_S1x256x128_0_0_384 inb_S1x512x1024_S1x384x128_0_128_384 inb_S8x640x256_S1x640x256_3_0_0 x r f (by omega) (by omega)
    exact Eq.trans (congrFun (by rfl) x) key
  case piece21 =>
    have e0 : 0 + 1 * r.val = 128 + (x 0).val := h0
    have e1 : 0 + 1 * f.val = 256 + (x 1).val := h1
    have key := tileB256 x1 x2 x3 x4 x5 x6 256 2 rfl inb_S1x1024x512_S1x128x256_0_256_0 inb_S1x1024x512_S1x128x384_0_256_128 inb_S1x512x1024_S1x128x128_0_128_256 inb_S1x512x1024_S1x256x128_0_0_256 inb_S1x512x1024_S1x384x128_0_128_256 inb_S8x640x256_S1x640x256_2_0_0 x r f (by omega) (by omega)
    exact Eq.trans (congrFun (by rfl) x) key
  case piece22 =>
    have e0 : 0 + 1 * r.val = 128 + (x 0).val := h0
    have e1 : 0 + 1 * f.val = 128 + (x 1).val := h1
    have key := tileB256 x1 x2 x3 x4 x5 x6 128 1 rfl inb_S1x1024x512_S1x128x256_0_128_0 inb_S1x1024x512_S1x128x384_0_128_128 inb_S1x512x1024_S1x128x128_0_128_128 inb_S1x512x1024_S1x256x128_0_0_128 inb_S1x512x1024_S1x384x128_0_128_128 inb_S8x640x256_S1x640x256_1_0_0 x r f (by omega) (by omega)
    exact Eq.trans (congrFun (by rfl) x) key
  case piece23 =>
    have e0 : 0 + 1 * r.val = 128 + (x 0).val := h0
    have e1 : 0 + 1 * f.val = (x 1).val := h1
    have key := tileB256 x1 x2 x3 x4 x5 x6 0 0 rfl inb_S1x1024x512_S1x128x256_0_0_0 inb_S1x1024x512_S1x128x384_0_0_128 inb_S1x512x1024_S1x128x128_0_128_0 inb_S1x512x1024_S1x256x128_0_0_0 inb_S1x512x1024_S1x384x128_0_128_0 inb_S8x640x256_S1x640x256_0_0_0 x r f (by omega) (by omega)
    exact Eq.trans (congrFun (by rfl) x) key
  case piece24 =>
    have e0 : 0 + 1 * r.val = (x 0).val := h0
    have e1 : 0 + 1 * f.val = 896 + (x 1).val := h1
    have key := tileB128 x1 x2 x3 x4 x5 x6 896 7 rfl inb_S1x1024x512_S1x128x128_0_896_0 inb_S1x1024x512_S1x128x512_0_896_0 inb_S1x512x1024_S1x128x128_0_0_896 inb_S1x512x1024_S1x128x128_0_0_896 inb_S1x512x1024_S1x512x128_0_0_896 inb_S8x640x256_S1x640x256_7_0_0 x r f (by omega) (by omega)
    exact Eq.trans (congrFun (by rfl) x) key
  case piece25 =>
    have e0 : 0 + 1 * r.val = (x 0).val := h0
    have e1 : 0 + 1 * f.val = 768 + (x 1).val := h1
    have key := tileB128 x1 x2 x3 x4 x5 x6 768 6 rfl inb_S1x1024x512_S1x128x128_0_768_0 inb_S1x1024x512_S1x128x512_0_768_0 inb_S1x512x1024_S1x128x128_0_0_768 inb_S1x512x1024_S1x128x128_0_0_768 inb_S1x512x1024_S1x512x128_0_0_768 inb_S8x640x256_S1x640x256_6_0_0 x r f (by omega) (by omega)
    exact Eq.trans (congrFun (by rfl) x) key
  case piece26 =>
    have e0 : 0 + 1 * r.val = (x 0).val := h0
    have e1 : 0 + 1 * f.val = 640 + (x 1).val := h1
    have key := tileB128 x1 x2 x3 x4 x5 x6 640 5 rfl inb_S1x1024x512_S1x128x128_0_640_0 inb_S1x1024x512_S1x128x512_0_640_0 inb_S1x512x1024_S1x128x128_0_0_640 inb_S1x512x1024_S1x128x128_0_0_640 inb_S1x512x1024_S1x512x128_0_0_640 inb_S8x640x256_S1x640x256_5_0_0 x r f (by omega) (by omega)
    exact Eq.trans (congrFun (by rfl) x) key
  case piece27 =>
    have e0 : 0 + 1 * r.val = (x 0).val := h0
    have e1 : 0 + 1 * f.val = 512 + (x 1).val := h1
    have key := tileB128 x1 x2 x3 x4 x5 x6 512 4 rfl inb_S1x1024x512_S1x128x128_0_512_0 inb_S1x1024x512_S1x128x512_0_512_0 inb_S1x512x1024_S1x128x128_0_0_512 inb_S1x512x1024_S1x128x128_0_0_512 inb_S1x512x1024_S1x512x128_0_0_512 inb_S8x640x256_S1x640x256_4_0_0 x r f (by omega) (by omega)
    exact Eq.trans (congrFun (by rfl) x) key
  case piece28 =>
    have e0 : 0 + 1 * r.val = (x 0).val := h0
    have e1 : 0 + 1 * f.val = 384 + (x 1).val := h1
    have key := tileB128 x1 x2 x3 x4 x5 x6 384 3 rfl inb_S1x1024x512_S1x128x128_0_384_0 inb_S1x1024x512_S1x128x512_0_384_0 inb_S1x512x1024_S1x128x128_0_0_384 inb_S1x512x1024_S1x128x128_0_0_384 inb_S1x512x1024_S1x512x128_0_0_384 inb_S8x640x256_S1x640x256_3_0_0 x r f (by omega) (by omega)
    exact Eq.trans (congrFun (by rfl) x) key
  case piece29 =>
    have e0 : 0 + 1 * r.val = (x 0).val := h0
    have e1 : 0 + 1 * f.val = 256 + (x 1).val := h1
    have key := tileB128 x1 x2 x3 x4 x5 x6 256 2 rfl inb_S1x1024x512_S1x128x128_0_256_0 inb_S1x1024x512_S1x128x512_0_256_0 inb_S1x512x1024_S1x128x128_0_0_256 inb_S1x512x1024_S1x128x128_0_0_256 inb_S1x512x1024_S1x512x128_0_0_256 inb_S8x640x256_S1x640x256_2_0_0 x r f (by omega) (by omega)
    exact Eq.trans (congrFun (by rfl) x) key
  case piece30 =>
    have e0 : 0 + 1 * r.val = (x 0).val := h0
    have e1 : 0 + 1 * f.val = 128 + (x 1).val := h1
    have key := tileB128 x1 x2 x3 x4 x5 x6 128 1 rfl inb_S1x1024x512_S1x128x128_0_128_0 inb_S1x1024x512_S1x128x512_0_128_0 inb_S1x512x1024_S1x128x128_0_0_128 inb_S1x512x1024_S1x128x128_0_0_128 inb_S1x512x1024_S1x512x128_0_0_128 inb_S8x640x256_S1x640x256_1_0_0 x r f (by omega) (by omega)
    exact Eq.trans (congrFun (by rfl) x) key
  case piece31 =>
    have e0 : 0 + 1 * r.val = (x 0).val := h0
    have e1 : 0 + 1 * f.val = (x 1).val := h1
    have key := tileB128 x1 x2 x3 x4 x5 x6 0 0 rfl inb_S1x1024x512_S1x128x128_0_0_0 inb_S1x1024x512_S1x128x512_0_0_0 inb_S1x512x1024_S1x128x128_0_0_0 inb_S1x512x1024_S1x128x128_0_0_0 inb_S1x512x1024_S1x512x128_0_0_0 inb_S8x640x256_S1x640x256_0_0_0 x r f (by omega) (by omega)
    exact Eq.trans (congrFun (by rfl) x) key

end Cert.Attn

end
-- ==== Proof.Attn.Value.lean ====
/-
  The array attention's kernel writes, as one function of the arguments.
-/
module

public import proofs.«01_k».proof.Proof.Attn.PointA
public import proofs.«01_k».proof.Proof.Attn.PointB
public import proofs.«01_k».proof.Proof.Gen.Kernel4Ideal.Value

@[expose] public section

noncomputable section

open Idealize.ShloMosaic Idealize.ShloMosaic.TcCoe Idealize.SL.Sem

namespace Cert.Attn

open Cert.Kernel4Ideal Cert.Kernel4Ideal.Gen

/-- The key at position `j` of the window of position `s`, zero before the sequence. -/
def keyX (k : S4x8192x1024.Idx → EReal) (b : Fin 4) (s : Fin 8192) (j : Fin 640) (C : Fin 1024) : EReal :=
  if h : 512 ≤ 128 * (s.val / 128) + j.val then k (ix3 b ⟨128 * (s.val / 128) + j.val - 512, by omega⟩ C) else 0

/-- The value at position `j` of the window of position `s`, zero before the sequence. -/
def valX (v : S4x1024x8192.Idx → EReal) (b : Fin 4) (s : Fin 8192) (C : Fin 1024) (j : Fin 640) : EReal :=
  if h : 512 ≤ 128 * (s.val / 128) + j.val then v (ix3 b C ⟨128 * (s.val / 128) + j.val - 512, by omega⟩) else 0

/-- The score of position `s` and position `j` of its window, in the head of column `C`. -/
def scoreX (q k : S4x8192x1024.Idx → EReal) (tb : S16x640x256.Idx → EReal) (b : Fin 4) (s : Fin 8192) (C : Fin 1024) (j : Fin 640) : EReal :=
  (∑ e : Fin 64, keyX k b s j (headCol C e) * q (ix3 b s (headCol C e)))
    + tb (ix3 (⟨8 + C.val / 128, by omega⟩ : Fin 16) j (⟨128 * (C.val / 64 % 2) + s.val % 128, by omega⟩ : Fin 256))

/-- The heads' output at position `s`, column `C`. -/
def attX (q k : S4x8192x1024.Idx → EReal) (v : S4x1024x8192.Idx → EReal) (tb : S16x640x256.Idx → EReal) (b : Fin 4) (s : Fin 8192) (C : Fin 1024) : EReal :=
  window (512 - 128 * (s.val / 128)) (scoreX q k tb b s C) (valX v b s C)

/-- The layer's result at position `s`, column `C`. -/
def outX (x q k : S4x8192x1024.Idx → EReal) (v : S4x1024x8192.Idx → EReal) (tb : S16x640x256.Idx → EReal) (wo : S1024x1024.Idx → EReal)
    (b : Fin 4) (s : Fin 8192) (C : Fin 1024) : EReal :=
  x (ix3 b s C) + ∑ f : Fin 1024, attX q k v tb b s f * wo (ix2 f C)

theorem window_congr (a : ℕ) {S S' V V' : Fin 640 → EReal} (hS : ∀ j : Fin 640, a ≤ j.val → S j = S' j) (hV : ∀ j : Fin 640, a ≤ j.val → V j = V' j) :
    window a S V = window a S' V' := by
  unfold window
  congr 1
  · funext k; exact hS _ (Nat.le_add_right _ _)
  · funext k; exact hV _ (Nat.le_add_right _ _)

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16 - 1, 0] ∧ win0_3.index t = ![t.val / 16, t.val % 16, 0]
    ∧ win0_4.index t = ![t.val / 16, 0, t.val % 16 - 1] ∧ win0_5.index t = ![t.val / 16, 0, t.val % 16]
    ∧ win0_6.index t = ![1, 0, 0] ∧ win0_7.index t = ![0, 0] ∧ win0_8.index t = ![t.val / 16, t.val % 16, 0] :=
  (by decide +kernel : ∀ t : Fin grid0.N, _)

theorem blk0 (c : Dev nD) (t : Fin cfg0.N) (R : Fin 512) (C : Fin 1024) (b : Fin 4) (s : Fin 8192) (h : 512 * t.val + R.val = 8192 * b.val + s.val) :
    iblk m c 0 t (ix3 (0 : Fin 1) R C) = m ((c : Thread nD τ).loc main_arg0) (ix3 b s C) := by
  blk_ext! [iblk, V, idx t]

theorem blk1 (c : Dev nD) (t : Fin cfg0.N) (R : Fin 512) (C : Fin 1024) (b : Fin 4) (s : Fin 8192) (h : 512 * t.val + R.val = 8192 * b.val + s.val) :
    iblk m c 1 t (ix3 (0 : Fin 1) R C) = m ((c : Thread nD τ).loc main_arg1) (ix3 b s C) := by
  blk_ext! [iblk, V, idx t]

theorem blk2 (c : Dev nD) (t : Fin cfg0.N) (ht : 1 ≤ t.val % 16) (R : Fin 512) (C : Fin 1024) (b : Fin 4) (s : Fin 8192)
    (h : 512 * t.val + R.val = 8192 * b.val + s.val + 512) :
    iblk m c 2 t (ix3 (0 : Fin 1) R C) = m ((c : Thread nD τ).loc main_arg2) (ix3 b s C) := by
  blk_ext! [iblk, V, idx t]

theorem blk3 (c : Dev nD) (t : Fin cfg0.N) (R : Fin 512) (C : Fin 1024) (b : Fin 4) (s : Fin 8192) (h : 512 * t.val + R.val = 8192 * b.val + s.val) :
    iblk m c 3 t (ix3 (0 : Fin 1) R C) = m ((c : Thread nD τ).loc main_arg2) (ix3 b s C) := by
  blk_ext! [iblk, V, idx t]

theorem blk4 (c : Dev nD) (t : Fin cfg0.N) (ht : 1 ≤ t.val % 16) (R : Fin 512) (C : Fin 1024) (b : Fin 4) (s : Fin 8192)
    (h : 512 * t.val + R.val = 8192 * b.val + s.val + 512) :
    iblk m c 4 t (ix3 (0 : Fin 1) C R) = m ((c : Thread nD τ).loc main_arg3) (ix3 b C s) := by
  blk_ext! [iblk, V, idx t]

theorem blk5 (c : Dev nD) (t : Fin cfg0.N) (R : Fin 512) (C : Fin 1024) (b : Fin 4) (s : Fin 8192) (h : 512 * t.val + R.val = 8192 * b.val + s.val) :
    iblk m c 5 t (ix3 (0 : Fin 1) C R) = m ((c : Thread nD τ).loc main_arg3) (ix3 b C s) := by
  blk_ext! [iblk, V, idx t]

theorem blk6 (c : Dev nD) (t : Fin cfg0.N) (p : Fin 8) (p' : Fin 16) (j : Fin 640) (l l' : Fin 256) (hp : p'.val = 8 + p.val) (hl : l'.val = l.val) :
    iblk m c 6 t (ix3 p j l) = m ((c : Thread nD τ).loc main_arg4) (ix3 p' j l') := by
  blk_ext! [iblk, V, idx t]

theorem blk7 (c : Dev nD) (t : Fin cfg0.N) (f C : Fin 1024) :
    iblk m c 7 t (ix2 f C) = m ((c : Thread nD τ).loc main_arg5) (ix2 f C) := by
  blk_ext! [iblk, V, idx t]

theorem key_blk (c : Dev nD) (t : Fin cfg0.N) (R : Fin 512) (j : Fin 640) (C : Fin 1024) (b : Fin 4) (s : Fin 8192)
    (h : 512 * t.val + R.val = 8192 * b.val + s.val) (hj : 512 - 128 * (s.val / 128) ≤ j.val) :
    keyT (iblk m c 2 t) (iblk m c 3 t) (winRow R j) C = keyX (m ((c : Thread nD τ).loc main_arg2)) b s j C := by
  have hs := s.isLt
  have hR := R.isLt
  unfold keyT keyX
  rw [dif_pos (show 512 ≤ 128 * (s.val / 128) + j.val by omega)]
  by_cases hu : (winRow R j).val < 512
  · have hu' : 128 * (R.val / 128) + j.val < 512 := hu
    rw [dif_pos hu]
    refine blk2 m c t (by omega) _ C b _ ?_
    show 512 * t.val + (128 * (R.val / 128) + j.val) = 8192 * b.val + (128 * (s.val / 128) + j.val - 512) + 512
    omega
  · have hu' : ¬128 * (R.val / 128) + j.val < 512 := hu
    rw [dif_neg hu]
    refine blk3 m c t _ C b _ ?_
    show 512 * t.val + (128 * (R.val / 128) + j.val - 512) = 8192 * b.val + (128 * (s.val / 128) + j.val - 512)
    omega

theorem val_blk (c : Dev nD) (t : Fin cfg0.N) (R : Fin 512) (j : Fin 640) (C : Fin 1024) (b : Fin 4) (s : Fin 8192)
    (h : 512 * t.val + R.val = 8192 * b.val + s.val) (hj : 512 - 128 * (s.val / 128) ≤ j.val) :
    valT (iblk m c 4 t) (iblk m c 5 t) C (winRow R j) = valX (m ((c : Thread nD τ).loc main_arg3)) b s C j := by
  have hs := s.isLt
  have hR := R.isLt
  unfold valT valX
  rw [dif_pos (show 512 ≤ 128 * (s.val / 128) + j.val by omega)]
  by_cases hu : (winRow R j).val < 512
  · have hu' : 128 * (R.val / 128) + j.val < 512 := hu
    rw [dif_pos hu]
    refine blk4 m c t (by omega) _ C b _ ?_
    show 512 * t.val + (128 * (R.val / 128) + j.val) = 8192 * b.val + (128 * (s.val / 128) + j.val - 512) + 512
    omega
  · have hu' : ¬128 * (R.val / 128) + j.val < 512 := hu
    rw [dif_neg hu]
    refine blk5 m c t _ C b _ ?_
    show 512 * t.val + (128 * (R.val / 128) + j.val - 512) = 8192 * b.val + (128 * (s.val / 128) + j.val - 512)
    omega

theorem score_blk (c : Dev nD) (t : Fin cfg0.N) (R : Fin 512) (C : Fin 1024) (j : Fin 640) (b : Fin 4) (s : Fin 8192)
    (h : 512 * t.val + R.val = 8192 * b.val + s.val) (hj : 512 - 128 * (s.val / 128) ≤ j.val) :
    scoreT (iblk m c 1 t) (iblk m c 2 t) (iblk m c 3 t) (iblk m c 6 t) R C j
      = scoreX (m ((c : Thread nD τ).loc main_arg1)) (m ((c : Thread nD τ).loc main_arg2)) (m ((c : Thread nD τ).loc main_arg4)) b s C j := by
  unfold scoreT scoreX
  refine congrArg₂ (· + ·) (Finset.sum_congr rfl fun e _ => ?_) (blk6 m c t _ _ j _ _ rfl ?_)
  · exact congrArg₂ (· * ·) (key_blk m c t R j _ b s h hj) (blk1 m c t R _ b s h)
  · show 128 * (C.val / 64 % 2) + s.val % 128 = 128 * (C.val / 64 % 2) + R.val % 128
    omega

theorem att_blk (c : Dev nD) (t : Fin cfg0.N) (R : Fin 512) (C : Fin 1024) (a : ℕ) (b : Fin 4) (s : Fin 8192)
    (h : 512 * t.val + R.val = 8192 * b.val + s.val) (ha : a = 512 - 128 * (s.val / 128)) :
    attT a (iblk m c 1 t) (iblk m c 2 t) (iblk m c 3 t) (iblk m c 4 t) (iblk m c 5 t) (iblk m c 6 t) R C
      = attX (m ((c : Thread nD τ).loc main_arg1)) (m ((c : Thread nD τ).loc main_arg2)) (m ((c : Thread nD τ).loc main_arg3))
          (m ((c : Thread nD τ).loc main_arg4)) b s C := by
  subst ha
  exact window_congr _ (fun j hj => score_blk m c t R C j b s h hj) (fun j hj => val_blk m c t R j C b s h hj)

/-- The layer's result. -/
abbrev resF (c : Dev nD) (i : S4x8192x1024.Idx) : EReal :=
  outX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

theorem out_at (c : Dev nD) (t : Fin cfg0.N) (R : Fin 512) (C : Fin 1024) (b : Fin 4) (s : Fin 8192)
    (h : 512 * t.val + R.val = 8192 * b.val + s.val) :
    outsAt0 m c t.val t.isLt (ix3 (0 : Fin 1) R C)
      = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s C := by
  have hs := s.isLt
  have hR := R.isLt
  have key : ∀ a : ℕ, a = 512 - 128 * (s.val / 128) →
      (fun u v : EReal => u + v) (iblk m c 0 t (ix3 (0 : Fin 1) R C)) (∑ f : Fin 1024, (fun u v : EReal => u * v) (attT a (iblk m c 1 t) (iblk m c 2 t) (iblk m c 3 t) (iblk m c 4 t) (iblk m c 5 t) (iblk m c 6 t) R f) (iblk m c 7 t (ix2 f C)))
        = outX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s C := by
    intro a ha
    unfold outX
    exact congrArg₂ (· + ·) (blk0 m c t R C b s h) (Finset.sum_congr rfl fun f _ => congrArg₂ (· * ·) (att_blk m c t R f a b s h ha) (blk7 m c t f C))
  by_cases h0 : t.val % 16 = 0
  · rw [outsAt0_A m c t h0 (by omega), outA]
    exact key (512 - 128 * (R.val / 128)) (by omega)
  · rw [outsAt0_B m c t h0 (by omega), outB]
    exact key 0 (by omega)

theorem out_blk (c : Dev nD) (t : Fin cfg0.N) (y : S1x512x1024.Idx) (i : S4x8192x1024.Idx) (h0 : (i 0).val = t.val / 16)
    (h1 : (i 1).val = 512 * (t.val % 16) + (y 1).val) (h2 : (i 2).val = (y 2).val) :
    outsAt0 m c t.val t.isLt y = resF m c i := by
  have hb : 512 * t.val + (⟨(y 1).val, (y 1).isLt⟩ : Fin 512).val = 8192 * (i 0).val + (i 1).val := by
    show 512 * t.val + (y 1).val = _
    omega
  have ej : (⟨(y 2).val, (y 2).isLt⟩ : Fin 1024) = i 2 := Fin.ext h2.symm
  have hy : (y 0).val < 1 := (y 0).isLt
  have ey : y = ix3 (0 : Fin 1) (⟨(y 1).val, (y 1).isLt⟩ : Fin 512) (⟨(y 2).val, (y 2).isLt⟩ : Fin 1024) := by
    refine (eq_ix3 y).trans ?_
    congr 1
    exact Fin.ext (by show (y 0).val = 0; omega)
  refine (congrArg _ ey).trans ((out_at m c t _ _ (i 0) (i 1) hb).trans ?_)
  exact congrArg (fun j : Fin 1024 => outX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) j) ej

theorem final8 (c : Dev nD) (i : S4x8192x1024.Idx) : (dats m 0 c).arrAt 8 cfg0.N i = resF m c i := by
  refine (dats m 0 c).arrAt_forall_of_covers 8 (fun i v => v = resF m c i) (by decide +kernel) (fun t hf y => ?_) i
  have e0 : (((cfg0.win 8).blk t).view.emb y 0).val = t.val / 16 := by
    blk_simp [idx t]
  have e1 : (((cfg0.win 8).blk t).view.emb y 1).val = t.val % 16 * 512 + (y 1).val := by
    blk_simp [idx t]
  have e2 : (((cfg0.win 8).blk t).view.emb y 2).val = (y 2).val := by
    blk_simp [idx t]
  have key : ∀ i : S4x8192x1024.Idx, (i 0).val = t.val / 16 → (i 1).val = 512 * (t.val % 16) + (y 1).val → (i 2).val = (y 2).val → _ = resF m c i :=
    fun i h0 h1 h2 => out_blk m c t y i h0 h1 h2
  blk_simp
  rw [after0_8]
  exact key _ e0 (e1.trans (by omega)) e2

end Cert.Attn

end

end
-- ==== Proof.Attn.Softmax.lean ====
/-
  A softmax with masked scores is the softmax over the positions that are not masked.
-/
module

public import proofs.«01_k».proof.Proof.Attn.Block

@[expose] public section

noncomputable section

open Idealize.ShloMosaic Idealize.ShloMosaic.TcCoe Idealize.SL.Sem

namespace Cert.Attn

theorem two : Ideal.ofBits .f32 0x40000000#32 = ((2 : ℝ) : EReal) := by
  simp [Ideal.ofBits, Ideal.ieee, -EReal.coe_mul]
  norm_num

/-- A power of two. -/
theorem pow_two (x : EReal) : Ideal.pow (Ideal.ofBits .f32 0x40000000#32) x = Ideal.exp2 x := by
  rw [two]
  induction x using EReal.rec with
  | bot =>
    show (if (2 : ℝ) < 0 then (⊥ : EReal) else if (1 : ℝ) < 2 then 0 else if (2 : ℝ) = 1 then 1 else ⊤) = 0
    norm_num
  | coe r => rfl
  | top =>
    show (if (2 : ℝ) < 0 then (⊥ : EReal) else if (1 : ℝ) < 2 then ⊤ else if (2 : ℝ) = 1 then 1 else 0) = ⊤
    norm_num

/-- A real number, neither infinity. -/
def Real' (x : EReal) : Prop := x ≠ ⊤ ∧ x ≠ ⊥

/-- The scores with those before `a` masked. -/
def masked (a : ℕ) (S : Fin 640 → EReal) (j : Fin 640) : EReal := if a ≤ j.val then S j else ⊥

/-- The positions from `a` on, among all. -/
def tail (a : ℕ) (ha : a ≤ 640) : Fin (640 - a) ↪ Fin 640 := ⟨fun k => ⟨a + k.val, by omega⟩, fun x y h => Fin.ext (by have := congrArg Fin.val h; simp only at this; omega)⟩

/-- A sum whose terms before `a` vanish. -/
theorem sum_tail (a : ℕ) (ha : a ≤ 640) (f : Fin 640 → EReal) (h : ∀ j : Fin 640, j.val < a → f j = 0) :
    ∑ k : Fin (640 - a), f ⟨a + k.val, by omega⟩ = ∑ j : Fin 640, f j := by
  have e : ∑ k : Fin (640 - a), f ⟨a + k.val, by omega⟩ = ∑ j ∈ Finset.univ.map (tail a ha), f j := by
    rw [Finset.sum_map]
    rfl
  rw [e]
  refine Finset.sum_subset (Finset.subset_univ _) fun j _ hj => h j ?_
  by_contra hlt
  refine hj (Finset.mem_map.mpr ⟨⟨j.val - a, by omega⟩, Finset.mem_univ _, Fin.ext ?_⟩)
  show a + (j.val - a) = j.val
  omega

theorem le_top' {n : ℕ} (S : Fin n → EReal) (k : Fin n) : S k ≤ top S := by
  unfold top
  exact (Finset.le_fold_max _).mpr (Or.inr ⟨k, Finset.mem_univ _, le_rfl⟩)

theorem top_le {n : ℕ} (S : Fin n → EReal) (y : EReal) (h : ∀ k, S k ≤ y) : top S ≤ y := by
  unfold top
  exact (Finset.fold_max_le _).mpr ⟨bot_le, fun k _ => h k⟩

theorem top_masked (a : ℕ) (ha : a ≤ 640) (S : Fin 640 → EReal) :
    top (masked a S) = top (n := 640 - a) fun k => S ⟨a + k.val, by omega⟩ := by
  apply le_antisymm
  · refine top_le _ _ fun j => ?_
    unfold masked
    by_cases h : a ≤ j.val
    · rw [if_pos h]
      refine le_trans (le_of_eq (congrArg S (Fin.ext ?_))) (le_top' (n := 640 - a) (fun k => S ⟨a + k.val, by omega⟩) ⟨j.val - a, by omega⟩)
      show j.val = a + (j.val - a)
      omega
    · rw [if_neg h]; exact bot_le
  · refine top_le _ _ fun k => ?_
    refine le_trans (le_of_eq ?_) (le_top' (masked a S) ⟨a + k.val, by omega⟩)
    unfold masked
    rw [if_pos (Nat.le_add_right _ _)]

/-- The greatest of real scores is real. -/
theorem top_real {n : ℕ} (S : Fin n → EReal) (k : Fin n) (h : ∀ k, Real' (S k)) : Real' (top S) := by
  refine ⟨?_, fun e => (h k).2 (le_bot_iff.mp (e ▸ le_top' S k))⟩
  have : top S < ⊤ := by
    unfold top
    exact (Finset.fold_max_lt _).mpr ⟨bot_lt_top, fun k _ => lt_top_iff_ne_top.mpr (h k).1⟩
  exact this.ne

theorem real_of {x : EReal} (h : Real' x) : ∃ r : ℝ, x = (r : EReal) :=
  ⟨x.toReal, (EReal.coe_toReal h.1 h.2).symm⟩

theorem coe_sum' {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

theorem sum_mul_real {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert k s hk ih =>
    rw [Finset.sum_insert hk, Finset.sum_insert hk, ← ih]
    exact EReal.right_distrib_of_nonneg_of_ne_top (EReal.coe_nonneg.mpr hr) (EReal.coe_ne_top r) _ _

/-- The softmax over the positions from `a` on, with real scores there, is the softmax over all with the scores before `a` masked. -/
theorem window_eq (a : ℕ) (ha : a ≤ 512) (S V : Fin 640 → EReal) (hS : ∀ j, a ≤ j.val → Real' (S j)) :
    window a S V = ∑ j : Fin 640, V j * Ideal.div (Ideal.exp2 (masked a S j - top (masked a S)))
      (∑ j : Fin 640, Ideal.exp2 (masked a S j - top (masked a S))) := by
  have hr : ∀ k : Fin (640 - a), Real' (S ⟨a + k.val, by omega⟩) := fun k => hS _ (Nat.le_add_right _ _)
  obtain ⟨t, ht⟩ := real_of (top_real (n := 640 - a) (fun k => S ⟨a + k.val, by omega⟩) ⟨0, by omega⟩ hr)
  have htm : top (masked a S) = (t : EReal) := (top_masked a (by omega) S).trans ht
  have hz : ∀ j : Fin 640, j.val < a → Ideal.exp2 (masked a S j - top (masked a S)) = 0 := by
    intro j hj
    unfold masked
    rw [if_neg (by omega), EReal.bot_sub]
    rfl
  have hp : ∀ j : Fin 640, a ≤ j.val → Ideal.exp2 (masked a S j - top (masked a S)) = Ideal.exp2 (S j - (t : EReal)) := by
    intro j hj
    rw [htm]
    unfold masked
    rw [if_pos hj]
  -- the powers are real, none negative, and their sum is positive
  have he : ∀ k : Fin (640 - a), ∃ r : ℝ, 0 < r ∧ Ideal.exp2 (S ⟨a + k.val, by omega⟩ - (t : EReal)) = (r : EReal) := by
    intro k
    obtain ⟨s, hs⟩ := real_of (hr k)
    refine ⟨Real.rpow 2 (s - t), Real.rpow_pos_of_pos (by norm_num) _, ?_⟩
    rw [hs, ← EReal.coe_sub]
    rfl
  choose g hg0 hg using he
  have hsum : ∑ k : Fin (640 - a), Ideal.exp2 (S ⟨a + k.val, by omega⟩ - (t : EReal)) = ((∑ k, g k : ℝ) : EReal) := by
    rw [coe_sum']
    exact Finset.sum_congr rfl fun k _ => hg k
  have hpos : 0 < ∑ k, g k := Finset.sum_pos (fun k _ => hg0 k) ⟨⟨0, by omega⟩, Finset.mem_univ _⟩
  have hden : ∑ j : Fin 640, Ideal.exp2 (masked a S j - top (masked a S)) = ((∑ k, g k : ℝ) : EReal) := by
    rw [← sum_tail a (by omega) _ hz, ← hsum]
    exact Finset.sum_congr rfl fun k _ => hp _ (Nat.le_add_right _ _)
  rw [hden, ← sum_tail a (by omega) _ (fun j hj => by rw [hz j hj, Ideal.div_coe hpos.ne', zero_mul, mul_zero])]
  unfold window soft
  rw [ht, hsum, Ideal.div_coe hpos.ne', one_mul, sum_mul_real _ _ _ (by positivity)]
  refine Finset.sum_congr rfl fun k _ => ?_
  rw [hp _ (Nat.le_add_right _ _), Ideal.div_coe hpos.ne', mul_assoc]

end Cert.Attn

end

end
-- ==== Proof.Attn.Ref.lean ====
/-
  The attention's reference's result, as the same functions of the arguments.
-/
module

public import proofs.«01_k».proof.Proof.Attn.Value
public import proofs.«01_k».proof.Proof.Attn.Softmax
public import proofs.«01_k».proof.Proof.Gen.Reference4Ideal.Run

@[expose] public section

noncomputable section

open Idealize.ShloMosaic Idealize.ShloMosaic.TcCoe Idealize.SL.Sem

namespace Cert.AttnRef

open Cert.Reference4Ideal Cert.Reference4Ideal.Gen

/-- Keys or values padded in front, in blocks of 128 positions. -/
def blocksR (T : FVec Ideal S4x8192x1024 .f32) : FVec Ideal S4x68x128x16x64 .f32 :=
  shapeCast _ (pad S4x8704x1024 ![0, 512, 0] ![0, 0, 0] ![0, 0, 0] T (sitofp .f32 (constantI S_ 32 0#32)) pads_S4x8192x1024_S4x8704x1024_000_51200_000 h_S_) shapeCasts_S4x8704x1024_S4x68x128x16x64

/-- Block `i` of every window. -/
def partR (B : FVec Ideal S4x68x128x16x64 .f32) : Fin 5 → FVec Ideal S4x64x128x16x64 .f32
  | 0 => extractStridedSlice S4x64x128x16x64 ![0, 0, 0, 0, 0] B slices_S4x68x128x16x64_S4x64x128x16x64_0_0_0_0_0
  | 1 => extractStridedSlice S4x64x128x16x64 ![0, 1, 0, 0, 0] B slices_S4x68x128x16x64_S4x64x128x16x64_0_1_0_0_0
  | 2 => extractStridedSlice S4x64x128x16x64 ![0, 2, 0, 0, 0] B slices_S4x68x128x16x64_S4x64x128x16x64_0_2_0_0_0
  | 3 => extractStridedSlice S4x64x128x16x64 ![0, 3, 0, 0, 0] B slices_S4x68x128x16x64_S4x64x128x16x64_0_3_0_0_0
  | 4 => extractStridedSlice S4x64x128x16x64 ![0, 4, 0, 0, 0] B slices_S4x68x128x16x64_S4x64x128x16x64_0_4_0_0_0

/-- The windows of 640 positions. -/
def winR (B : FVec Ideal S4x68x128x16x64 .f32) : FVec Ideal S4x64x640x16x64 .f32 :=
  concatenate S4x64x640x16x64 2 [⟨S4x64x128x16x64, partR B 0⟩, ⟨S4x64x128x16x64, partR B 1⟩, ⟨S4x64x128x16x64, partR B 2⟩, ⟨S4x64x128x16x64, partR B 3⟩, ⟨S4x64x128x16x64, partR B 4⟩] concatenates_S4x64x128x16x64_S4x64x128x16x64_S4x64x128x16x64_S4x64x128x16x64_S4x64x128x16x64_S4x64x640x16x64_d2

/-- The biases of the heads. -/
def biasR (tb : FVec Ideal S16x640x256 .f32) : FVec Ideal S16x128x640 .f32 :=
  shapeCast _ (transpose S8x2x128x640 [0, 2, 3, 1] (shapeCast _ (extractStridedSlice S8x640x256 ![8, 0, 0] tb slices_S16x640x256_S8x640x256_8_0_0) shapeCasts_S8x640x256_S8x640x2x128) transposes_S8x640x2x128_S8x2x128x640_0_2_3_1) shapeCasts_S8x2x128x640_S16x128x640

/-- The queries in blocks and heads. -/
def qR (q : FVec Ideal S4x8192x1024 .f32) : FVec Ideal S4x64x128x16x64 .f32 := shapeCast _ q shapeCasts_S4x8192x1024_S4x64x128x16x64

/-- Which positions of a window lie in the sequence. -/
def maskR : IVec S64x640 1 :=
  cmpi .sge (addi (broadcastInDim S64x640 ![0, 1] bcast_S64x1_S64x640_0_1 (muli (broadcastInDim S64x1 ![0] bcast_S64_S64x1_0 (iotaInDim S64 32 0)) (broadcastInDim S64x1 ![] bcast_S_S64x1 (constantI S_ 32 128#32)))) (broadcastInDim S64x640 ![0, 1] bcast_S1x640_S64x640_0_1 (broadcastInDim S1x640 ![1] bcast_S640_S1x640_1 (iotaInDim S640 32 0)))) (broadcastInDim S64x640 ![] bcast_S_S64x640 (constantI S_ 32 512#32))

/-- The products of queries and keys. -/
def dotR (Q : FVec Ideal S4x64x128x16x64 .f32) (W : FVec Ideal S4x64x640x16x64 .f32) : FVec Ideal S4x64x16x128x640 .f32 :=
  Host.dotGeneral (φ₁ := .f32) (φ₂ := .f32) dot_S4x64x128x16x64_S4x64x640x16x64_S4x64x16x128x640_4_4_2_2_013_013 none Q W

/-- The masked scores. -/
def scoreR (M : IVec S64x640 1) (D : FVec Ideal S4x64x16x128x640 .f32) (B : FVec Ideal S16x128x640 .f32) : FVec Ideal S4x64x16x128x640 .f32 :=
  select (broadcastInDim S4x64x16x128x640 ![0, 1, 2, 3, 4] bcast_S1x64x1x1x640_S4x64x16x128x640_0_1_2_3_4 (broadcastInDim S1x64x1x1x640 ![1, 4] bcast_S64x640_S1x64x1x1x640_1_4 M))
    (addf D (broadcastInDim S4x64x16x128x640 ![0, 1, 2, 3, 4] bcast_S1x1x16x128x640_S4x64x16x128x640_0_1_2_3_4 (broadcastInDim S1x1x16x128x640 ![2, 3, 4] bcast_S16x128x640_S1x1x16x128x640_2_3_4 B)))
    (broadcastInDim S4x64x16x128x640 ![] bcast_S_S4x64x16x128x640 (id (constant S_ .f32 0xFF800000#32)))

/-- The powers of two of the scores below their greatest. -/
def powR (S : FVec Ideal S4x64x16x128x640 .f32) : FVec Ideal S4x64x16x128x640 .f32 :=
  Host.powf (broadcastInDim S4x64x16x128x640 ![] bcast_S_S4x64x16x128x640 (constant S_ .f32 0x40000000#32)) (subf S (broadcastInDim S4x64x16x128x640 ![0, 1, 2, 3, 4] bcast_S4x64x16x128x1_S4x64x16x128x640_0_1_2_3_4 (broadcastInDim S4x64x16x128x1 ![0, 1, 2, 3] bcast_S4x64x16x128_S4x64x16x128x1_0_1_2_3 (Host.reduce FloatOps.maximumf S (constant S_ .f32 0xFF800000#32) reducesTo_S4x64x16x128x640_S4x64x16x128_d4 h_S_))))

/-- The weights. -/
def weightR (E : FVec Ideal S4x64x16x128x640 .f32) : FVec Ideal S4x64x16x128x640 .f32 :=
  Host.divf E (broadcastInDim S4x64x16x128x640 ![0, 1, 2, 3, 4] bcast_S4x64x16x128x1_S4x64x16x128x640_0_1_2_3_4 (broadcastInDim S4x64x16x128x1 ![0, 1, 2, 3] bcast_S4x64x16x128_S4x64x16x128x1_0_1_2_3 (Host.reduceAdd E (constant S_ .f32 0x00000000#32) reducesTo_S4x64x16x128x640_S4x64x16x128_d4 h_S_)))

/-- The weighted sums of the values. -/
def sumR (W : FVec Ideal S4x64x640x16x64 .f32) (P : FVec Ideal S4x64x16x128x640 .f32) : FVec Ideal S4x64x16x64x128 .f32 :=
  Host.dotGeneral (φ₁ := .f32) (φ₂ := .f32) dot_S4x64x640x16x64_S4x64x16x128x640_S4x64x16x64x128_2_4_4_3_013_012 none W P

/-- The heads side by side. -/
def headsR (O : FVec Ideal S4x64x16x64x128 .f32) : FVec Ideal S4x8192x1024 .f32 :=
  shapeCast _ (transpose S4x64x128x16x64 [0, 1, 4, 2, 3] O transposes_S4x64x16x64x128_S4x64x128x16x64_0_1_4_2_3) shapeCasts_S4x64x128x16x64_S4x8192x1024

/-- The result. -/
def oR (x O : FVec Ideal S4x8192x1024 .f32) (wo : FVec Ideal S1024x1024 .f32) : FVec Ideal S4x8192x1024 .f32 :=
  addf x (Host.dotGeneral (φ₁ := .f32) (φ₂ := .f32) dot_S4x8192x1024_S1024x1024_S4x8192x1024_2_0_01_1_n_n none O wo)

/-- The values, a row for a position. -/
def vR (v : FVec Ideal S4x1024x8192 .bf16) : FVec Ideal S4x8192x1024 .f32 :=
  extf .f32 (transpose S4x8192x1024 [0, 2, 1] v transposes_S4x1024x8192_S4x8192x1024_0_2_1) bitsLt_bf16_f32

/-- The scores from the arguments. -/
def scoresR (q k : FVec Ideal S4x8192x1024 .bf16) (tb : FVec Ideal S16x640x256 .f32) : FVec Ideal S4x64x16x128x640 .f32 :=
  scoreR maskR (dotR (qR (extf .f32 q bitsLt_bf16_f32)) (winR (blocksR (extf .f32 k bitsLt_bf16_f32)))) (biasR tb)

variable (m : (ℓ : Loc nD τ sig) → Buf (Elt Ideal) ℓ)

theorem res_eq (c : Dev nD) : Value.res_main_v56 m c
    = oR (m ((c.tc : Thread nD τ).loc main_arg0))
        (headsR (sumR (winR (blocksR (vR (m ((c.tc : Thread nD τ).loc main_arg3)))))
          (weightR (powR (scoresR (m ((c.tc : Thread nD τ).loc main_arg1)) (m ((c.tc : Thread nD τ).loc main_arg2)) (m ((c.tc : Thread nD τ).loc main_arg4)))))))
        (m ((c.tc : Thread nD τ).loc main_arg5)) := rfl

theorem sitofp_zero : FloatOps.sitofp (F := Ideal) .f32 (0#32 : BitVec 32) = (0 : EReal) := by
  show (((0#32 : BitVec 32).toInt : ℝ) : EReal) = 0
  simp

theorem blocksR_apply (T : FVec Ideal S4x8192x1024 .f32) (b : Fin 4) (n : Fin 68) (r : Fin 128) (h : Fin 16) (e : Fin 64) :
    blocksR T (ix5 b n r h e) = if hh : 512 ≤ 128 * n.val + r.val then T (ix3 b ⟨128 * n.val + r.val - 512, by omega⟩ ⟨64 * h.val + e.val, by omega⟩) else 0 := by
  pointwise [blocksR]
  by_cases hh : 512 ≤ 128 * n.val + r.val
  · rw [dif_pos (by omega), dif_pos hh]
    refine congrArg₂ (fun s C => T (ix3 b s C)) (Fin.ext ?_) (Fin.ext ?_)
    · show n.val * 128 + r.val - 512 = 128 * n.val + r.val - 512
      omega
    · show h.val * 64 + e.val = 64 * h.val + e.val
      omega
  · rw [dif_neg (by omega), dif_neg hh]
    exact sitofp_zero

theorem partR_apply (B : FVec Ideal S4x68x128x16x64 .f32) (b : Fin 4) (n : Fin 64) (r : Fin 128) (h : Fin 16) (e : Fin 64) :
    (i : Fin 5) → partR B i (ix5 b n r h e) = B (ix5 b ⟨n.val + i.val, by omega⟩ r h e)
  | 0 => by
    show extractStridedSlice S4x64x128x16x64 ![0, 0, 0, 0, 0] B slices_S4x68x128x16x64_S4x64x128x16x64_0_0_0_0_0 (ix5 b n r h e) = _
    pointwise

  | 1 => by
    show extractStridedSlice S4x64x128x16x64 ![0, 1, 0, 0, 0] B slices_S4x68x128x16x64_S4x64x128x16x64_0_1_0_0_0 (ix5 b n r h e) = _
    pointwise
    exact congrArg (fun n => B (ix5 b n r h e)) (Fin.ext (by show 1 + n.val = n.val + 1; omega))
  | 2 => by
    show extractStridedSlice S4x64x128x16x64 ![0, 2, 0, 0, 0] B slices_S4x68x128x16x64_S4x64x128x16x64_0_2_0_0_0 (ix5 b n r h e) = _
    pointwise
    exact congrArg (fun n => B (ix5 b n r h e)) (Fin.ext (by show 2 + n.val = n.val + 2; omega))
  | 3 => by
    show extractStridedSlice S4x64x128x16x64 ![0, 3, 0, 0, 0] B slices_S4x68x128x16x64_S4x64x128x16x64_0_3_0_0_0 (ix5 b n r h e) = _
    pointwise
    exact congrArg (fun n => B (ix5 b n r h e)) (Fin.ext (by show 3 + n.val = n.val + 3; omega))
  | 4 => by
    show extractStridedSlice S4x64x128x16x64 ![0, 4, 0, 0, 0] B slices_S4x68x128x16x64_S4x64x128x16x64_0_4_0_0_0 (ix5 b n r h e) = _
    pointwise
    exact congrArg (fun n => B (ix5 b n r h e)) (Fin.ext (by show 4 + n.val = n.val + 4; omega))

theorem winR_apply (B : FVec Ideal S4x68x128x16x64 .f32) (b : Fin 4) (n : Fin 64) (j : Fin 640) (h : Fin 16) (e : Fin 64) :
    winR B (ix5 b n j h e) = B (ix5 b ⟨n.val + j.val / 128, by omega⟩ ⟨j.val % 128, Nat.mod_lt _ (by decide)⟩ h e) := by
  refine Eq.trans ?_ (partR_apply B b n ⟨j.val % 128, Nat.mod_lt _ (by decide)⟩ h e ⟨j.val / 128, by omega⟩)
  show concatenate S4x64x640x16x64 2 (List.ofFn fun i : Fin 5 => (⟨S4x64x128x16x64, partR B i⟩ : (s : Shape) × (s.Idx → EReal))) _ (ix5 b n j h e) = _
  exact concatenate_ofFn_apply (t := S4x64x640x16x64) (s₁ := S4x64x128x16x64) (2 : Fin 5) (partR B) _ rfl 128 rfl (ix5 b n j h e) ⟨j.val / 128, by omega⟩ rfl
    (ix5 b n ⟨j.val % 128, Nat.mod_lt _ (by decide)⟩ h e) rfl
    (fun a ha => match a with | ⟨0, _⟩ => rfl | ⟨1, _⟩ => rfl | ⟨2, _⟩ => absurd rfl ha | ⟨3, _⟩ => rfl | ⟨4, _⟩ => rfl)

/-- A window's entry, zero before the sequence. -/
theorem window_at (T : FVec Ideal S4x8192x1024 .f32) (b : Fin 4) (s : Fin 8192) (n : Fin 64) (j : Fin 640) (h : Fin 16) (e : Fin 64) (C : Fin 1024)
    (hn : n.val = s.val / 128) (hC : C.val = 64 * h.val + e.val) :
    winR (blocksR T) (ix5 b n j h e)
      = if hh : 512 ≤ 128 * (s.val / 128) + j.val then T (ix3 b ⟨128 * (s.val / 128) + j.val - 512, by omega⟩ C) else 0 := by
  rw [winR_apply, blocksR_apply]
  by_cases hh : 512 ≤ 128 * (s.val / 128) + j.val
  · rw [dif_pos (by show 512 ≤ 128 * (n.val + j.val / 128) + j.val % 128; omega), dif_pos hh]
    refine congrArg₂ (fun s C => T (ix3 b s C)) (Fin.ext ?_) (Fin.ext hC.symm)
    show 128 * (n.val + j.val / 128) + j.val % 128 - 512 = 128 * (s.val / 128) + j.val - 512
    omega
  · rw [dif_neg (by show ¬512 ≤ 128 * (n.val + j.val / 128) + j.val % 128; omega), dif_neg hh]

theorem biasR_apply (tb : FVec Ideal S16x640x256 .f32) (h : Fin 16) (r : Fin 128) (j : Fin 640) :
    biasR tb (ix3 h r j) = tb (ix3 (⟨8 + h.val / 2, by omega⟩ : Fin 16) j (⟨128 * (h.val % 2) + r.val, by omega⟩ : Fin 256)) := by
  pointwise [biasR]
  refine congrArg₂ (fun p l => tb (ix3 p j l)) (Fin.ext ?_) (Fin.ext ?_)
  · show 8 + _ = 8 + h.val / 2
    rfl
  · show h.val % 2 * 128 + r.val = 128 * (h.val % 2) + r.val
    omega

theorem qR_apply (q : FVec Ideal S4x8192x1024 .f32) (b : Fin 4) (s : Fin 8192) (n : Fin 64) (r : Fin 128) (h : Fin 16) (e : Fin 64) (C : Fin 1024)
    (hs : s.val = 128 * n.val + r.val) (hC : C.val = 64 * h.val + e.val) :
    qR q (ix5 b n r h e) = q (ix3 b s C) := by
  pointwise [qR]
  refine congrArg₂ (fun s C => q (ix3 b s C)) (Fin.ext ?_) (Fin.ext ?_)
  · show n.val * 128 + r.val = s.val
    omega
  · show h.val * 64 + e.val = C.val
    omega

theorem maskR_apply (n : Fin 64) (j : Fin 640) : maskR (ix2 n j) = if 512 ≤ 128 * n.val + j.val then 1#1 else 0#1 := by
  pointwise [maskR]
  revert n j
  decide +kernel

theorem dotR_apply (Q : FVec Ideal S4x64x128x16x64 .f32) (W : FVec Ideal S4x64x640x16x64 .f32) (b : Fin 4) (n : Fin 64) (h : Fin 16) (r : Fin 128) (j : Fin 640) :
    dotR Q W (ix5 b n h r j) = ∑ e : Fin 64, Q (ix5 b n r h e) * W (ix5 b n j h e) := by
  pointwise [dotR]

theorem scoreR_apply (M : IVec S64x640 1) (D : FVec Ideal S4x64x16x128x640 .f32) (B : FVec Ideal S16x128x640 .f32) (b : Fin 4) (n : Fin 64) (h : Fin 16) (r : Fin 128) (j : Fin 640) :
    scoreR M D B (ix5 b n h r j) = if M (ix2 n j) = 1#1 then D (ix5 b n h r j) + B (ix3 h r j) else ⊥ := by
  rw [← Attn.neg_inf]
  pointwise [scoreR]
  rfl

theorem powR_apply (S : FVec Ideal S4x64x16x128x640 .f32) (b : Fin 4) (n : Fin 64) (h : Fin 16) (r : Fin 128) (j : Fin 640) :
    powR S (ix5 b n h r j) = Ideal.exp2 (S (ix5 b n h r j) - Attn.top (fun j => S (ix5 b n h r j))) := by
  rw [← Attn.pow_two, Attn.top, ← Attn.neg_inf]
  pointwise [powR]

theorem weightR_apply (E : FVec Ideal S4x64x16x128x640 .f32) (b : Fin 4) (n : Fin 64) (h : Fin 16) (r : Fin 128) (j : Fin 640) :
    weightR E (ix5 b n h r j) = Ideal.div (E (ix5 b n h r j)) (∑ j : Fin 640, E (ix5 b n h r j)) := by
  pointwise [weightR]

theorem sumR_apply (W : FVec Ideal S4x64x640x16x64 .f32) (P : FVec Ideal S4x64x16x128x640 .f32) (b : Fin 4) (n : Fin 64) (h : Fin 16) (e : Fin 64) (r : Fin 128) :
    sumR W P (ix5 b n h e r) = ∑ j : Fin 640, W (ix5 b n j h e) * P (ix5 b n h r j) := by
  pointwise [sumR]

theorem headsR_apply (O : FVec Ideal S4x64x16x64x128 .f32) (b : Fin 4) (s : Fin 8192) (C : Fin 1024) :
    headsR O (ix3 b s C) = O (ix5 b (⟨s.val / 128, by omega⟩ : Fin 64) (⟨C.val / 64, by omega⟩ : Fin 16) (⟨C.val % 64, by omega⟩ : Fin 64) (⟨s.val % 128, by omega⟩ : Fin 128)) := by
  pointwise [headsR]

theorem oR_apply (x O : FVec Ideal S4x8192x1024 .f32) (wo : FVec Ideal S1024x1024 .f32) (b : Fin 4) (s : Fin 8192) (C : Fin 1024) :
    oR x O wo (ix3 b s C) = x (ix3 b s C) + ∑ f : Fin 1024, O (ix3 b s f) * wo (ix2 f C) := by
  pointwise [oR]

theorem vR_apply (v : FVec Ideal S4x1024x8192 .bf16) (b : Fin 4) (s : Fin 8192) (C : Fin 1024) :
    vR v (ix3 b s C) = v (ix3 b C s) := by
  pointwise [vR]

/-- The scores, those before the sequence masked. -/
theorem scoresR_at (q k : FVec Ideal S4x8192x1024 .bf16) (tb : FVec Ideal S16x640x256 .f32) (b : Fin 4) (s : Fin 8192) (C : Fin 1024) (j : Fin 640) :
    scoresR q k tb (ix5 b (⟨s.val / 128, by omega⟩ : Fin 64) (⟨C.val / 64, by omega⟩ : Fin 16) (⟨s.val % 128, by omega⟩ : Fin 128) j)
      = Attn.masked (512 - 128 * (s.val / 128)) (Attn.scoreX q k tb b s C) j := by
  unfold scoresR Attn.masked
  rw [scoreR_apply, maskR_apply]
  by_cases hj : 512 - 128 * (s.val / 128) ≤ j.val
  · rw [if_pos hj, if_pos (by rw [if_pos (by show 512 ≤ 128 * (s.val / 128) + j.val; omega)]), dotR_apply, biasR_apply]
    unfold Attn.scoreX
    refine congrArg₂ (· + ·) (Finset.sum_congr rfl fun e _ => ?_) (congrArg₂ (fun p l => tb (ix3 p j l)) (Fin.ext ?_) rfl)
    · rw [qR_apply _ b s _ _ _ e (Attn.headCol C e) (by show s.val = 128 * (s.val / 128) + s.val % 128; omega) rfl,
        window_at _ b s _ j _ e (Attn.headCol C e) rfl rfl]
      exact mul_comm _ _
    · show 8 + C.val / 64 / 2 = 8 + C.val / 128
      omega
  · rw [if_neg hj, if_neg (by rw [if_neg (by show ¬512 ≤ 128 * (s.val / 128) + j.val; omega)]; decide)]

/-- The heads' output is attention's, where the scores are real. -/
theorem heads_at (q k : FVec Ideal S4x8192x1024 .bf16) (v : FVec Ideal S4x1024x8192 .bf16) (tb : FVec Ideal S16x640x256 .f32) (b : Fin 4) (s : Fin 8192) (C : Fin 1024)
    (h : ∀ j, Attn.Real' (Attn.scoreX q k tb b s C j)) :
    headsR (sumR (winR (blocksR (vR v))) (weightR (powR (scoresR q k tb)))) (ix3 b s C) = Attn.attX q k v tb b s C := by
  unfold Attn.attX
  rw [Attn.window_eq _ (by omega) _ _ (fun j _ => h j), headsR_apply, sumR_apply]
  refine Finset.sum_congr rfl fun j _ => congrArg₂ (· * ·) ?_ ?_
  · rw [window_at _ b s _ j _ _ C rfl (by show C.val = 64 * (C.val / 64) + C.val % 64; omega)]
    unfold Attn.valX
    simp only [vR_apply]
  · rw [weightR_apply]
    simp only [powR_apply, scoresR_at]

/-- What the reference's result holds. -/
theorem result (c : Dev nD) (b : Fin 4) (s : Fin 8192) (C : Fin 1024)
    (h : ∀ C j, Attn.Real' (Attn.scoreX (m ((c.tc : Thread nD τ).loc main_arg1)) (m ((c.tc : Thread nD τ).loc main_arg2)) (m ((c.tc : Thread nD τ).loc main_arg4)) b s C j)) :
    Value.res_main_v56 m c (ix3 b s C) = Attn.outX (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) b s C := by
  rw [res_eq, oR_apply]
  unfold Attn.outX
  exact congrArg₂ (fun a b : EReal => a + b) rfl (Finset.sum_congr rfl fun f _ => congrArg₂ (fun a b : EReal => a * b) (heads_at _ _ _ _ b s f (h f)) rfl)

end Cert.AttnRef

end

end
-- ==== Proof.Attn.Finite.lean ====
/- The precondition of attention's value claim: no infinity among queries, keys and biases, so that every score is real. -/
module

public import proofs.«01_k».proof.Defs
public import proofs.«01_k».proof.Proof.Attn.Value
public import proofs.«01_k».proof.Proof.Attn.Softmax
public import Idealize.ShloMosaic.Lib.ReduceAll

@[expose] public section

noncomputable section

open Idealize.ShloMosaic Idealize.ShloMosaic.TcCoe Idealize.SL.Sem

namespace Cert.Attn

/-- The side conditions of the precondition's operations. -/
theorem facts : Cert.Pre_finite.Facts where
  bcast_S_S4x8192x1024 := by decide
  reducesTo_S4x8192x1024_S_d0_1_2 := by decide
  h_S_ := by decide
  bcast_S_S16x640x256 := by decide
  reducesTo_S16x640x256_S_d0_1_2 := by decide

theorem real_zero : Real' 0 := ⟨EReal.zero_ne_top, EReal.zero_ne_bot⟩

theorem real_add {x y : EReal} (hx : Real' x) (hy : Real' y) : Real' (x + y) := by
  obtain ⟨a, rfl⟩ := real_of hx
  obtain ⟨b, rfl⟩ := real_of hy
  rw [← EReal.coe_add]
  exact ⟨EReal.coe_ne_top _, EReal.coe_ne_bot _⟩

theorem real_mul {x y : EReal} (hx : Real' x) (hy : Real' y) : Real' (x * y) := by
  obtain ⟨a, rfl⟩ := real_of hx
  obtain ⟨b, rfl⟩ := real_of hy
  rw [← EReal.coe_mul]
  exact ⟨EReal.coe_ne_top _, EReal.coe_ne_bot _⟩

theorem real_sum {ι : Type} (s : Finset ι) (f : ι → EReal) (h : ∀ k ∈ s, Real' (f k)) : Real' (∑ k ∈ s, f k) :=
  Finset.sum_induction _ Real' (fun _ _ => real_add) real_zero h

/-- The scores of real queries, keys and biases are real. -/
theorem score_real (q k : Cert.Kernel4Ideal.S4x8192x1024.Idx → EReal) (tb : Cert.Kernel4Ideal.S16x640x256.Idx → EReal)
    (hq : ∀ i, Real' (q i)) (hk : ∀ i, Real' (k i)) (ht : ∀ i, Real' (tb i)) (b : Fin 4) (s : Fin 8192) (C : Fin 1024) (j : Fin 640) :
    Real' (scoreX q k tb b s C j) := by
  unfold scoreX
  refine real_add (real_sum _ _ fun e _ => real_mul ?_ (hq _)) (ht _)
  unfold keyX
  split
  · exact hk _
  · exact real_zero

theorem inf_bf16 : Ideal.ofBits .bf16 0x7F80#16 = (⊤ : EReal) := by simp [Ideal.ofBits, Ideal.ieee]

theorem inf_f32 : Ideal.ofBits .f32 0x7F800000#32 = (⊤ : EReal) := by simp [Ideal.ofBits, Ideal.ieee]

/-- A magnitude below infinity is that of a real number. -/
theorem real_of_lt {x : EReal} (h : Ideal.cmp .olt (max x (-x)) ⊤ = 1#1) : Real' x := by
  have h' : max x (-x) < ⊤ := by
    by_contra hn
    simp [Ideal.cmp, hn] at h
  rw [max_lt_iff] at h'
  refine ⟨h'.1.ne, fun e => ?_⟩
  rw [e] at h'
  exact absurd h'.2 (by simp)

theorem and_one {x y : BitVec 1} (h : x &&& y = 1#1) : x = 1#1 ∧ y = 1#1 := by
  revert h x y
  decide

/-- What the precondition says. -/
theorem finite_real [hP : Cert.Pre_finite.Facts] (m : (ℓ : Loc Cert.Kernel4Ideal.nD Cert.Kernel4Ideal.τ Cert.Kernel4Ideal.sig) → Buf (Elt Ideal) ℓ)
    (h : Cert.Pre_Kernel4Ideal_finite m) (c : Dev Cert.Kernel4Ideal.nD) :
    (∀ i : Cert.Kernel4Ideal.S4x8192x1024.Idx, Real' (m ((c.tc : Thread Cert.Kernel4Ideal.nD Cert.Kernel4Ideal.τ).loc Cert.Kernel4Ideal.main_arg1) i))
    ∧ (∀ i : Cert.Kernel4Ideal.S4x8192x1024.Idx, Real' (m ((c.tc : Thread Cert.Kernel4Ideal.nD Cert.Kernel4Ideal.τ).loc Cert.Kernel4Ideal.main_arg2) i))
    ∧ (∀ i : Cert.Kernel4Ideal.S16x640x256.Idx, Real' (m ((c.tc : Thread Cert.Kernel4Ideal.nD Cert.Kernel4Ideal.τ).loc Cert.Kernel4Ideal.main_arg4) i)) := by
  have e := congrFun (h c) (fun a => a.elim0)
  unfold Cert.Pre_finite.fn at e
  obtain ⟨e12, e3⟩ := and_one e
  obtain ⟨e1, e2⟩ := and_one e12
  haveI : Subsingleton Cert.Pre_finite.S_.Idx := ⟨fun a b => funext fun x => x.elim0⟩
  refine ⟨fun i => real_of_lt ?_, fun i => real_of_lt ?_, fun i => real_of_lt ?_⟩
  · rw [← inf_bf16]
    exact Host.reduce_andi_all _ _ _ _ _ e1 i
  · rw [← inf_bf16]
    exact Host.reduce_andi_all _ _ _ _ _ e2 i
  · rw [← inf_f32]
    exact Host.reduce_andi_all _ _ _ _ _ e3 i

end Cert.Attn

end

end
-- ==== Proof.Attn.Claim.lean ====
/- Attention's value claim: the kernel's result over the ideal instance is the reference's, for finite queries, keys and biases. -/
module

public import proofs.«01_k».proof.Defs
public import proofs.«01_k».proof.Proof.Attn.Value
public import proofs.«01_k».proof.Proof.Attn.Ref
public import proofs.«01_k».proof.Proof.Attn.Finite
public import proofs.«01_k».proof.Proof.Gen.Kernel4Ideal.Value
public import proofs.«01_k».proof.Proof.Gen.Reference4Ideal.Run

@[expose] public section

noncomputable section

namespace Cert.Attn

open Idealize.ShloMosaic Idealize.SL.Sem

/-- Kernel and reference return the same array from arguments that agree. -/
theorem algebraic [hP : Cert.Pre_finite.Facts] : Cert.algebraic_Kernel4Ideal_Reference4Ideal_pre_finite (hPre_finite := hP) := by
  intro m ρ m' ρ' hpre hagree
  refine ⟨fun c i => resF m c i, ?_, ?_⟩
  · exact (θ_run Cert.Kernel4Ideal.defs _ _).mono
      (fun _ h c => ⟨(h c).1.trans (funext fun i => final8 m c i), (h c).2⟩) (Cert.Kernel4Ideal.Value.run_blocks m ρ)
  refine (θ_run Cert.Reference4Ideal.defs _ _).mono (fun _ h c => ⟨(h c).1.trans ?_, (h c).2⟩) (Cert.Reference4Ideal.Value.run m' ρ')
  obtain ⟨hq, hk, ht⟩ := finite_real m hpre c
  obtain ⟨h0, h1, h2, h3, h4, h5⟩ := hagree c
  funext i
  refine (congrArg _ (eq_ix3 i)).trans ((AttnRef.result m' c (i 0) (i 1) (i 2) fun C j => ?_).trans ?_)
  · rw [h1, h2, h4]
    exact score_real _ _ _ hq hk ht _ _ _ _
  · rw [h0, h1, h2, h3, h4, h5]

end Cert.Attn

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ffn.Claim
public import proofs.«01_k».proof.Proof.Qkv.Claim
public import proofs.«01_k».proof.Proof.Attn.Claim
public import Idealize.ShloMosaic.Adequacy
public import Idealize.ShloMosaic.Init

@[expose] public section

noncomputable section

namespace Cert.Proof

open Idealize.ShloMosaic Idealize.SL.Sem

/-- The attention layer's program runs and keeps its arguments, over the floats and over the reals. -/
theorem frame_k : Cert.quiescent_Kernel := fun m ρ _ => Cert.Kernel.Gen.frame m ρ
theorem frame_ki : Cert.quiescent_KernelIdeal := fun m ρ _ => Cert.KernelIdeal.Gen.frame m ρ

/-- The feed-forward layer's. -/
theorem frame_f : Cert.quiescent_Kernel2 := fun m ρ _ => Cert.Kernel2.Gen.frame m ρ
theorem frame_fi : Cert.quiescent_Kernel2Ideal := fun m ρ _ => Cert.Kernel2Ideal.Gen.frame m ρ
theorem frame_fr : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projections'. -/
theorem frame_p : Cert.quiescent_Kernel3 := fun m ρ _ => Cert.Kernel3.Gen.frame m ρ
theorem frame_pi : Cert.quiescent_Kernel3Ideal := fun m ρ _ => Cert.Kernel3Ideal.Gen.frame m ρ
theorem frame_pr : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Attention's, with the precondition and without. -/
theorem frame_a : Cert.quiescent_Kernel4 := fun m ρ _ => Cert.Kernel4.Gen.frame m ρ
theorem frame_ai : Cert.quiescent_Kernel4Ideal := fun m ρ _ => Cert.Kernel4Ideal.Gen.frame m ρ
theorem frame_ar : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The named constants of the attention layer: `log₂ e`, the mask and the scale times `log₂ e`. -/
theorem preserves_k : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "scale_log2e" .f32 0x3E38AA3B#32
      (((1 / 8) * (Real.log 2)⁻¹ : ℝ) : EReal) rfl⟩

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Attn.facts,
    frame_k, frame_ki, frame_f, frame_fi, frame_fr, frame_p, frame_pi, frame_pr, frame_a, frame_ai, fun m ρ _ => frame_ai m ρ trivial, frame_ar, fun m ρ _ => frame_ar m ρ trivial,
    preserves_k, trivial, Ffn.algebraic, trivial, Qkv.algebraic, trivial, Attn.algebraic (hP := Attn.facts)⟩

end Cert.Proof

end
